-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pack.Statement Cert.KernelIdeal.S1x1152
  ∧ IdealRules.named_const.Statement Cert.KernelIdeal.κ "inv_d" .f32 0x3A638E39#32 ((1 / 1152 : ℝ) : EReal)
  ∧ IdealRules.bf16_pack.Statement Cert.KernelIdeal.S1x256
  ∧ IdealRules.bf16_pack.Statement Cert.KernelIdeal.S8x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x32768x1152 : Shape := ⟨3, ![5, 32768, 1152]⟩
abbrev S5x32768 : Shape := ⟨2, ![5, 32768]⟩
abbrev S5x1152 : Shape := ⟨2, ![5, 1152]⟩
abbrev S_ : Shape := ⟨0, ![]⟩

class Facts : Prop where
  natLt_8_32 : 8 < 32
  bcast_S_S5x32768x1152 : S_.BroadcastsInDim S5x32768x1152 (![] : Fin 0 → Fin S5x32768x1152.rank)
  bcast_S_S5x32768 : S_.BroadcastsInDim S5x32768 (![] : Fin 0 → Fin S5x32768.rank)
  bcast_S_S5x1152 : S_.BroadcastsInDim S5x1152 (![] : Fin 0 → Fin S5x1152.rank)

variable [Facts]

def fn_part1 {F : FTy → Type} [FloatOps F] (main_v4 : IVec S5x32768x1152 1) (main_v9 : IVec S5x32768x1152 1) (main_v12 : IVec S5x32768 1) (main_v15 : IVec S5x32768 1) (main_v16 : FVec F S5x1152 .f32) (main_cst_4 : FVec F S_ .f32) : IVec S5x32768x1152 1 × IVec S5x32768x1152 1 × IVec S5x32768 1 × IVec S5x32768 1 × IVec S5x1152 1 :=
  let main_v17 : FVec F S5x1152 .f32 := broadcastInDim S5x1152 ![] bcast_S_S5x1152 main_cst_4
  let main_v18 : IVec S5x1152 1 := cmpf .olt main_v16 main_v17
  (main_v4, main_v9, main_v12, main_v15, main_v18)

def fn {F : FTy → Type} [FloatOps F] (main_arg0 : IVec S5x32768x1152 8) (main_arg1 : FVec F S5x32768 .f32) (main_arg2 : FVec F S5x32768x1152 .bf16) (main_arg3 : FVec F S5x32768x1152 .fp8e5m2) (main_arg4 : FVec F S5x32768 .f32) (main_arg5 : IVec S5x32768x1152 8) (main_arg6 : FVec F S5x32768 .f32) (main_arg7 : FVec F S5x1152 .f32) : IVec S5x32768x1152 1 × IVec S5x32768x1152 1 × IVec S5x32768 1 × IVec S5x32768 1 × IVec S5x1152 1 :=
  let main_v0 : IVec S5x32768x1152 32 := (extsi 32 · natLt_8_32) main_arg0
  let main_c : IVec S_ 32 := constantI S_ 32 127#32
  let main_v1 : IVec S5x32768x1152 32 := broadcastInDim S5x32768x1152 ![] bcast_S_S5x32768x1152 main_c
  let main_v2 : IVec S5x32768x1152 32 := andi main_v0 main_v1
  let main_c_0 : IVec S_ 32 := constantI S_ 32 127#32
  let main_v3 : IVec S5x32768x1152 32 := broadcastInDim S5x32768x1152 ![] bcast_S_S5x32768x1152 main_c_0
  let main_v4 : IVec S5x32768x1152 1 := cmpi .slt main_v2 main_v3
  let main_v5 : IVec S5x32768x1152 32 := (extsi 32 · natLt_8_32) main_arg5
  let main_c_1 : IVec S_ 32 := constantI S_ 32 127#32
  let main_v6 : IVec S5x32768x1152 32 := broadcastInDim S5x32768x1152 ![] bcast_S_S5x32768x1152 main_c_1
  let main_v7 : IVec S5x32768x1152 32 := andi main_v5 main_v6
  let main_c_2 : IVec S_ 32 := constantI S_ 32 124#32
  let main_v8 : IVec S5x32768x1152 32 := broadcastInDim S5x32768x1152 ![] bcast_S_S5x32768x1152 main_c_2
  let main_v9 : IVec S5x32768x1152 1 := cmpi .slt main_v7 main_v8
  let main_v10 : FVec F S5x32768 .f32 := Host.absf main_arg1
  let main_cst : FVec F S_ .f32 := constant S_ .f32 0x7F800000#32
  let main_v11 : FVec F S5x32768 .f32 := broadcastInDim S5x32768 ![] bcast_S_S5x32768 main_cst
  let main_v12 : IVec S5x32768 1 := cmpf .olt main_v10 main_v11
  let main_v13 : FVec F S5x32768 .f32 := Host.absf main_arg6
  let main_cst_3 : FVec F S_ .f32 := constant S_ .f32 0x7F800000#32
  let main_v14 : FVec F S5x32768 .f32 := broadcastInDim S5x32768 ![] bcast_S_S5x32768 main_cst_3
  let main_v15 : IVec S5x32768 1 := cmpf .olt main_v13 main_v14
  let main_v16 : FVec F S5x1152 .f32 := Host.absf main_arg7
  let main_cst_4 : FVec F S_ .f32 := constant S_ .f32 0x7F800000#32
  fn_part1 (F := F) main_v4 main_v9 main_v12 main_v15 main_v16 main_cst_4
-- ==== Kernel.lean ====
abbrev S5x32768x1152 : Shape := ⟨3, ![5, 32768, 1152]⟩
abbrev S5x32768 : Shape := ⟨2, ![5, 32768]⟩
abbrev S5x1152 : Shape := ⟨2, ![5, 1152]⟩
abbrev S5x3x1152 : Shape := ⟨3, ![5, 3, 1152]⟩
abbrev S5x256x3x1152 : Shape := ⟨4, ![5, 256, 3, 1152]⟩
abbrev S5x1024 : Shape := ⟨2, ![5, 1024]⟩
abbrev S1x1024x1152 : Shape := ⟨3, ![1, 1024, 1152]⟩
abbrev S1x8x3x1152 : Shape := ⟨4, ![1, 8, 3, 1152]⟩
abbrev S2x256x1152 : Shape := ⟨3, ![2, 256, 1152]⟩
abbrev S2x4x256x128 : Shape := ⟨4, ![2, 4, 256, 128]⟩
abbrev S3x1152 : Shape := ⟨2, ![3, 1152]⟩
abbrev S1x3x1152 : Shape := ⟨3, ![1, 3, 1152]⟩
abbrev S1x1152 : Shape := ⟨2, ![1, 1152]⟩
abbrev S8x1152 : Shape := ⟨2, ![8, 1152]⟩
abbrev S16x1152 : Shape := ⟨2, ![16, 1152]⟩
abbrev S1x256x1152 : Shape := ⟨3, ![1, 256, 1152]⟩
abbrev S256x1152 : Shape := ⟨2, ![256, 1152]⟩
abbrev S16x256 : Shape := ⟨2, ![16, 256]⟩
abbrev S1x256 : Shape := ⟨2, ![1, 256]⟩
abbrev S4x256 : Shape := ⟨2, ![4, 256]⟩
abbrev S8x256 : Shape := ⟨2, ![8, 256]⟩
abbrev S256x8 : Shape := ⟨2, ![256, 8]⟩
abbrev S256x1 : Shape := ⟨2, ![256, 1]⟩
abbrev S256x128 : Shape := ⟨2, ![256, 128]⟩
abbrev S1x1x256x128 : Shape := ⟨4, ![1, 1, 256, 128]⟩
abbrev S32x256 : Shape := ⟨2, ![32, 256]⟩
abbrev S32x1152 : Shape := ⟨2, ![32, 1152]⟩
abbrev S2x1152 : Shape := ⟨2, ![2, 1152]⟩
abbrev S1x1x2x1152 : Shape := ⟨4, ![1, 1, 2, 1152]⟩
abbrev S1x128 : Shape := ⟨2, ![1, 128]⟩
abbrev S1x32x128 : Shape := ⟨3, ![1, 32, 128]⟩
abbrev S32x128 : Shape := ⟨2, ![32, 128]⟩
abbrev S1x1x32x128 : Shape := ⟨4, ![1, 1, 32, 128]⟩
abbrev S8x128 : Shape := ⟨2, ![8, 128]⟩
abbrev S128 : Shape := ⟨1, ![128]⟩
abbrev S1x1x1x128 : Shape := ⟨4, ![1, 1, 1, 128]⟩
abbrev S1x1x3x1152 : Shape := ⟨4, ![1, 1, 3, 1152]⟩

abbrev nBuf : Space → Nat
  | .hbm => 13
  | .vmem => 22
  | .smem => 0
  | _ => 0

abbrev bufTy : (tb : Table) → Fin (tcTables nBuf tb) → BufTy
  | .hbm, ⟨0, _⟩ => ⟨S5x32768x1152, .i8⟩
  | .hbm, ⟨1, _⟩ => ⟨S5x32768, .f32⟩
  | .hbm, ⟨2, _⟩ => ⟨S5x32768x1152, .bf16⟩
  | .hbm, ⟨3, _⟩ => ⟨S5x32768x1152, .fp8e5m2⟩
  | .hbm, ⟨4, _⟩ => ⟨S5x32768, .f32⟩
  | .hbm, ⟨5, _⟩ => ⟨S5x32768x1152, .i8⟩
  | .hbm, ⟨6, _⟩ => ⟨S5x32768, .f32⟩
  | .hbm, ⟨7, _⟩ => ⟨S5x1152, .f32⟩
  | .hbm, ⟨8, _⟩ => ⟨S5x32768x1152, .fp8e4m3⟩
  | .hbm, ⟨9, _⟩ => ⟨S5x32768x1152, .fp8e5m2⟩
  | .hbm, ⟨10, _⟩ => ⟨S5x32768x1152, .bf16⟩
  | .hbm, ⟨11, _⟩ => ⟨S5x3x1152, .f32⟩
  | .hbm, ⟨12, _⟩ => ⟨S5x256x3x1152, .f32⟩
  | .local _ .vmem, ⟨0, _⟩ => ⟨S5x1024, .f32⟩
  | .local _ .vmem, ⟨1, _⟩ => ⟨S5x1024, .f32⟩
  | .local _ .vmem, ⟨2, _⟩ => ⟨S5x1024, .f32⟩
  | .local _ .vmem, ⟨3, _⟩ => ⟨S5x1024, .f32⟩
  | .local _ .vmem, ⟨4, _⟩ => ⟨S5x1024, .f32⟩
  | .local _ .vmem, ⟨5, _⟩ => ⟨S5x1024, .f32⟩
  | .local _ .vmem, ⟨6, _⟩ => ⟨S1x1024x1152, .fp8e4m3⟩
  | .local _ .vmem, ⟨7, _⟩ => ⟨S1x1024x1152, .fp8e4m3⟩
  | .local _ .vmem, ⟨8, _⟩ => ⟨S1x1024x1152, .bf16⟩
  | .local _ .vmem, ⟨9, _⟩ => ⟨S1x1024x1152, .bf16⟩
  | .local _ .vmem, ⟨10, _⟩ => ⟨S1x1024x1152, .fp8e5m2⟩
  | .local _ .vmem, ⟨11, _⟩ => ⟨S1x1024x1152, .fp8e5m2⟩
  | .local _ .vmem, ⟨12, _⟩ => ⟨S1x1024x1152, .fp8e5m2⟩
  | .local _ .vmem, ⟨13, _⟩ => ⟨S1x1024x1152, .fp8e5m2⟩
  | .local _ .vmem, ⟨14, _⟩ => ⟨S5x1152, .f32⟩
  | .local _ .vmem, ⟨15, _⟩ => ⟨S1x1024x1152, .bf16⟩
  | .local _ .vmem, ⟨16, _⟩ => ⟨S1x1024x1152, .bf16⟩
  | .local _ .vmem, ⟨17, _⟩ => ⟨S5x3x1152, .f32⟩
  | .local _ .vmem, ⟨18, _⟩ => ⟨S1x8x3x1152, .f32⟩
  | .local _ .vmem, ⟨19, _⟩ => ⟨S1x8x3x1152, .f32⟩
  | .local _ .vmem, ⟨20, _⟩ => ⟨S2x256x1152, .bf16⟩
  | .local _ .vmem, ⟨21, _⟩ => ⟨S2x4x256x128, .f32⟩
  | _, _ => ⟨S5x32768x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [BitOps F]

abbrev grid0 : Pipeline.Grid := ⟨2, ![32, 5], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v13074 : Index := Scalar.indexCast arg1
  let c0_9625 : Index := 0#32
  let c0_9626 : Index := 0#32
  ![v13074.toNat, 0, 0]
def k0_off2 (i : grid0.Coords) : Fin 2 → Nat :=
  let arg1 : BitVec 32 := BitVec.ofNat 32 (i 1).val
  let v3 : Index := Scalar.indexCast arg1
  let c0 : Index := 0#32
  ![v3.toNat, 0]
def k0_off3 (i : grid0.Coords) : Fin 2 → Nat :=
  let arg1 : BitVec 32 := BitVec.ofNat 32 (i 1).val
  let v49 : Index := Scalar.indexCast arg1
  let c0_18 : Index := 0#32
  ![v49.toNat, 0]
def k0_off4 (i : grid0.Coords) : Fin 2 → Nat :=
  let arg1 : BitVec 32 := BitVec.ofNat 32 (i 1).val
  let v271 : Index := Scalar.indexCast arg1
  let c256_96 : Index := 256#32
  ![v271.toNat, 256]
def k0_off5 (i : grid0.Coords) : Fin 2 → Nat :=
  let arg1 : BitVec 32 := BitVec.ofNat 32 (i 1).val
  let v3526 : Index := Scalar.indexCast arg1
  let c512_2489 : Index := 512#32
  ![v3526.toNat, 512]
def k0_off6 (i : grid0.Coords) : Fin 2 → Nat :=
  let arg1 : BitVec 32 := BitVec.ofNat 32 (i 1).val
  let v6781 : Index := Scalar.indexCast arg1
  let c768_4887 : Index := 768#32
  ![v6781.toNat, 768]
def k0_off7 (i : grid0.Coords) : Fin 3 → Nat :=
  let arg1 : BitVec 32 := BitVec.ofNat 32 (i 1).val
  let v13065 : Index := Scalar.indexCast arg1
  let c0_9620 : Index := 0#32
  let c0_9621 : Index := 0#32
  ![v13065.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S5x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1152 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1152 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1152 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S5x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S5x3x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x3x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_d" => some ((1 / 1152 : ℝ) : EReal)
  | _ => none
-- ==== ReferenceIdeal.lean ====
abbrev S5x32768x1152 : Shape := ⟨3, ![5, 32768, 1152]⟩
abbrev S5x32768 : Shape := ⟨2, ![5, 32768]⟩
abbrev S5x1152 : Shape := ⟨2, ![5, 1152]⟩
abbrev S5x3x1152 : Shape := ⟨3, ![5, 3, 1152]⟩
abbrev S5x256x3x1152 : Shape := ⟨4, ![5, 256, 3, 1152]⟩
abbrev S5x32768x1 : Shape := ⟨3, ![5, 32768, 1]⟩
abbrev S5x256x128x1152 : Shape := ⟨4, ![5, 256, 128, 1152]⟩
abbrev S5x256x1152 : Shape := ⟨3, ![5, 256, 1152]⟩
abbrev S5x256x1x1152 : Shape := ⟨4, ![5, 256, 1, 1152]⟩
abbrev S5x1x1152 : Shape := ⟨3, ![5, 1, 1152]⟩

abbrev nBuf : Space → Nat
  | .hbm => 13
  | .vmem => 11
  | .smem => 0
  | _ => 0

abbrev bufTy : (tb : Table) → Fin (tcTables nBuf tb) → BufTy
  | .hbm, ⟨0, _⟩ => ⟨S5x32768x1152, .i8⟩
  | .hbm, ⟨1, _⟩ => ⟨S5x32768, .f32⟩
  | .hbm, ⟨2, _⟩ => ⟨S5x32768x1152, .bf16⟩
  | .hbm, ⟨3, _⟩ => ⟨S5x32768x1152, .fp8e5m2⟩
  | .hbm, ⟨4, _⟩ => ⟨S5x32768, .f32⟩
  | .hbm, ⟨5, _⟩ => ⟨S5x32768x1152, .i8⟩
  | .hbm, ⟨6, _⟩ => ⟨S5x32768, .f32⟩
  | .hbm, ⟨7, _⟩ => ⟨S5x1152, .f32⟩
  | .hbm, ⟨8, _⟩ => ⟨S5x32768x1152, .fp8e4m3⟩
  | .hbm, ⟨9, _⟩ => ⟨S5x32768x1152, .fp8e5m2⟩
  | .hbm, ⟨10, _⟩ => ⟨S5x32768x1152, .bf16⟩
  | .hbm, ⟨11, _⟩ => ⟨S5x3x1152, .f32⟩
  | .hbm, ⟨12, _⟩ => ⟨S5x256x3x1152, .f32⟩
  | .local _ .vmem, ⟨0, _⟩ => ⟨S5x32768x1152, .fp8e4m3⟩
  | .local _ .vmem, ⟨1, _⟩ => ⟨S5x32768, .f32⟩
  | .local _ .vmem, ⟨2, _⟩ => ⟨S5x32768x1152, .bf16⟩
  | .local _ .vmem, ⟨3, _⟩ => ⟨S5x32768x1152, .fp8e5m2⟩
  | .local _ .vmem, ⟨4, _⟩ => ⟨S5x32768, .f32⟩
  | .local _ .vmem, ⟨5, _⟩ => ⟨S5x32768x1152, .fp8e5m2⟩
  | .local _ .vmem, ⟨6, _⟩ => ⟨S5x32768, .f32⟩
  | .local _ .vmem, ⟨7, _⟩ => ⟨S5x1152, .f32⟩
  | .local _ .vmem, ⟨8, _⟩ => ⟨S5x32768x1152, .bf16⟩
  | .local _ .vmem, ⟨9, _⟩ => ⟨S5x3x1152, .f32⟩
  | .local _ .vmem, ⟨10, _⟩ => ⟨S5x256x3x1152, .f32⟩
  | _, _ => ⟨S5x32768x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5x32768x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x32768x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x32768x1152 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x32768x1152 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x32768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x32768x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x3x1152 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x256x3x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Finite.lean ====
/-
  What the precondition says over the extended reals: a byte whose low seven bits stay below a format's first code that is
  no number decodes to a real, and a scale of finite absolute value is a real.
-/
module

public import proofs.«01_k».proof.Defs
public import Idealize.ShloMosaic.Lib.Pointwise
public import Idealize.ShloMosaic.Lib.Tactic

@[expose] public section

set_option maxRecDepth 16384

noncomputable section

namespace Cert.Pre_finite

open Idealize.ShloMosaic

/-- The predicate's side conditions hold. -/
theorem facts : Facts where
  natLt_8_32 := by decide
  bcast_S_S5x32768x1152 := by decide
  bcast_S_S5x32768 := by decide
  bcast_S_S5x1152 := by decide

/-- Codes of `fp8e4m3` other than the one pattern that is no number have an exponent or a fraction not all ones. -/
theorem bits_e4m3 : ∀ w : BitVec 8, IntOp.cmpi .slt (IntOp.andi (w.signExtend 32) 127#32) 127#32 = 1#1 →
    ¬((w.extractLsb' 3 4).toNat = 15 ∧ (w.extractLsb' 0 3).toNat = 7) := by decide +kernel

/-- Codes of `fp8e5m2` below the infinity have an exponent not all ones. -/
theorem bits_e5m2 : ∀ w : BitVec 8, IntOp.cmpi .slt (IntOp.andi (w.signExtend 32) 127#32) 124#32 = 1#1 →
    (w.extractLsb' 2 5).toNat ≠ 2 ^ 5 - 1 := by decide +kernel

/-- Such a code of `fp8e4m3` decodes to a real, -/
theorem real_e4m3 (w : BitVec 8) (h : IntOp.cmpi .slt (IntOp.andi (w.signExtend 32) 127#32) 127#32 = 1#1) :
    Ideal.ofBits .fp8e4m3 w = ((Ideal.ofBits .fp8e4m3 w).toReal : EReal) := by
  have hb := bits_e4m3 w h
  unfold Ideal.ofBits Ideal.e4m3fn
  simp only [hb, if_false]
  split_ifs <;> rw [EReal.toReal_coe]

/-- and of `fp8e5m2`. -/
theorem real_e5m2 (w : BitVec 8) (h : IntOp.cmpi .slt (IntOp.andi (w.signExtend 32) 127#32) 124#32 = 1#1) :
    Ideal.ofBits .fp8e5m2 w = ((Ideal.ofBits .fp8e5m2 w).toReal : EReal) := by
  have hb := bits_e5m2 w h
  unfold Ideal.ofBits Ideal.ieee
  simp only [hb, if_false]
  split_ifs <;> rw [EReal.toReal_coe]

/-- The pattern of the infinity. -/
theorem ofBits_inf : Ideal.ofBits .f32 0x7F800000#32 = ⊤ := by
  simp [Ideal.ofBits, Ideal.ieee]

/-- What lies below the infinity in absolute value is real. -/
theorem real_of_abs (a : EReal) (h : Ideal.cmp .olt (max a (-a)) ⊤ = 1#1) : a = (a.toReal : EReal) := by
  have h' : max a (-a) < ⊤ := by
    by_contra hn
    simp [Ideal.cmp, hn] at h
  refine (EReal.coe_toReal ?_ ?_).symm
  · rintro rfl; simp at h'
  · rintro rfl; simp at h'

section
variable [Facts] (x0 x5 : IVec S5x32768x1152 8) (x1 x4 x6 : FVec Ideal S5x32768 .f32) (x2 : FVec Ideal S5x32768x1152 .bf16)
  (x3 : FVec Ideal S5x32768x1152 .fp8e5m2) (x7 : FVec Ideal S5x1152 .f32)

/-- The codes of `x`, -/
theorem fn_x (h : (fn x0 x1 x2 x3 x4 x5 x6 x7).1 = fun _ => 1#1) (i : S5x32768x1152.Idx) :
    Ideal.ofBits .fp8e4m3 (x0 i) = ((Ideal.ofBits .fp8e4m3 (x0 i)).toReal : EReal) :=
  real_e4m3 (x0 i) (congrFun h i)

/-- of `dh`, -/
theorem fn_h (h : (fn x0 x1 x2 x3 x4 x5 x6 x7).2.1 = fun _ => 1#1) (i : S5x32768x1152.Idx) :
    Ideal.ofBits .fp8e5m2 (x5 i) = ((Ideal.ofBits .fp8e5m2 (x5 i)).toReal : EReal) :=
  real_e5m2 (x5 i) (congrFun h i)

/-- the scales of `x`, -/
theorem fn_s (h : (fn x0 x1 x2 x3 x4 x5 x6 x7).2.2.1 = fun _ => 1#1) (i : S5x32768.Idx) : x1 i = ((x1 i).toReal : EReal) :=
  real_of_abs (x1 i) (by rw [← ofBits_inf]; exact congrFun h i)

/-- of `dh`, -/
theorem fn_u (h : (fn x0 x1 x2 x3 x4 x5 x6 x7).2.2.2.1 = fun _ => 1#1) (i : S5x32768.Idx) : x6 i = ((x6 i).toReal : EReal) :=
  real_of_abs (x6 i) (by rw [← ofBits_inf]; exact congrFun h i)

/-- and the modulation are real where the predicate holds. -/
theorem fn_g (h : (fn x0 x1 x2 x3 x4 x5 x6 x7).2.2.2.2 = fun _ => 1#1) (i : S5x1152.Idx) : x7 i = ((x7 i).toReal : EReal) :=
  real_of_abs (x7 i) (by rw [← ofBits_inf]; exact congrFun h i)

end
end Cert.Pre_finite
end
-- ==== Proof.Body.lean ====
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 17580000 in
/-- What the body leaves in its three results' buffers: the witness of the run, found by symbolic execution, together with the
    proof that the body, from the buffers it is given held whole, runs to its return and leaves the inputs as they were, the
    results at the witness and the two scratch buffers at some contents. -/
def bodyRun (c : Dev nD) (i : grid0.Coords) (arg2 : Memref sig .tc .vmem S5x1024 .f32) (harg2 : arg2.IsWhole) (arg3 : Memref sig .tc .vmem S5x1024 .f32) (harg3 : arg3.IsWhole) (arg4 : Memref sig .tc .vmem S5x1024 .f32) (harg4 : arg4.IsWhole) (arg5 : Memref sig .tc .vmem S1x1024x1152 .fp8e4m3) (harg5 : arg5.IsWhole) (arg6 : Memref sig .tc .vmem S1x1024x1152 .bf16) (harg6 : arg6.IsWhole) (arg7 : Memref sig .tc .vmem S1x1024x1152 .fp8e5m2) (harg7 : arg7.IsWhole) (arg8 : Memref sig .tc .vmem S1x1024x1152 .fp8e5m2) (harg8 : arg8.IsWhole) (arg9 : Memref sig .tc .vmem S5x1152 .f32) (harg9 : arg9.IsWhole) (arg10 : Memref sig .tc .vmem S1x1024x1152 .bf16) (harg10 : arg10.IsWhole) (arg11 : Memref sig .tc .vmem S5x3x1152 .f32) (harg11 : arg11.IsWhole) (arg12 : Memref sig .tc .vmem S1x8x3x1152 .f32) (harg12 : arg12.IsWhole) (arg13 : Memref sig .tc .vmem S2x256x1152 .bf16) (harg13 : arg13.IsWhole) (arg14 : Memref sig .tc .vmem S2x4x256x128 .f32) (harg14 : arg14.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f11 : Bf (F := F) c arg11) :
    { W : Bf (F := F) c arg10 × Bf (F := F) c arg11 × Bf (F := F) c arg12 //
      ∀ (f10 : Bf (F := F) c arg10) (f12 : Bf (F := F) c arg12) (f13 : Bf (F := F) c arg13) (f14 : Bf (F := F) c arg14)
        (E : Set ℕ) (K : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
            ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 W.1 ∗ pt c arg11 W.2.1 ∗ pt c arg12 W.2.2 ∗ (∃ f, pt c arg13 f) ∗ (∃ f, pt c arg14 f)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_⟩, fun f10 f12 f13 f14 E K => ?run⟩
  case run =>
    simp only [cc0__body_eq_skeleton]; unfold cc0__body_skel
    simp only [k0_part391_eq_skeleton, k0_part385_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part386_eq_skeleton, k0_part387_eq_skeleton, k0_part388_eq_skeleton, k0_part389_eq_skeleton, k0_part390_eq_skeleton]
    iintro ⟨H2, H3, H4, H5, H6, H7, H8, H9, H10, H11, H12, H13, H14, Hk⟩
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

end Cert.KernelIdeal.Gen

end
-- ==== Proof.Consts.lean ====
/-
  The float constants the two programs spell, as the extended reals they denote at `Ideal`, and sums of real numbers read
  among the extended reals.
-/
module

public import proofs.«01_k».proof.Proof.Gen.KernelIdeal
public import Idealize.ShloMosaic.Lib.Pointwise

@[expose] public section

noncomputable section

namespace Cert.Dit

open Idealize.ShloMosaic

/-- `1152.0`, the number of columns. -/
theorem ofBits_1152 : Ideal.ofBits .f32 0x44900000#32 = ((1152 : ℝ) : EReal) := by
  simp [Ideal.ofBits, Ideal.ieee, -EReal.coe_mul]; norm_num

/-- `2.0`. -/
theorem ofBits_two : Ideal.ofBits .f32 0x40000000#32 = ((2 : ℝ) : EReal) := by
  simp [Ideal.ofBits, Ideal.ieee, -EReal.coe_mul]; norm_num

/-- The layer norm's epsilon, as the real number its pattern denotes. -/
def eps : ℝ := (2 ^ 23 + 407485 : ℕ) * (2 : ℝ) ^ (-43 : ℤ)

/-- The epsilon is positive. -/
theorem eps_pos : 0 < eps := by unfold eps; positivity

/-- The pattern of `1e-6` denotes `eps`. -/
theorem ofBits_eps : Ideal.ofBits .f32 0x358637BD#32 = ((eps : ℝ) : EReal) := by
  simp [Ideal.ofBits, Ideal.ieee, eps, -EReal.coe_mul]

/-- The kernel's named reciprocal denotes the rational 1/1152, by the certificate's table. -/
theorem inv_d : Named.named (F := Ideal) Cert.KernelIdeal.κ "inv_d" (φ := .f32) 0x3A638E39#32 = ((1 / 1152 : ℝ) : EReal) :=
  IdealRules.named_const.ideal_named_scalar _ _ _ _ rfl

/-- The sum of real numbers among the extended reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

end Cert.Dit

end
-- ==== Proof.Math.lean ====
/-
  One row of the layer norm's backward over the real numbers: the reference's formula, and the kernel's folded one, are
  the same number.  `x` and `h` are the row's codes, `s` and `u` their scales, `g` the modulation.
-/
module

public import proofs.«01_k».proof.Proof.Consts

@[expose] public section

noncomputable section

namespace Cert.Dit

open Idealize.ShloMosaic

variable (x h g : Fin 1152 → ℝ) (s u : ℝ)

/-- The row's mean of the unscaled codes. -/
def mean : ℝ := (∑ d, x d) * (1 / 1152)

/-- The scaled row, centred, as the reference writes it. -/
def ctr (d : Fin 1152) : ℝ := x d * s - (∑ d, x d * s) * (1 / 1152)

/-- The reciprocal standard deviation, from the centred row. -/
def rstd : ℝ := (Real.sqrt ((∑ d, ctr x s d * ctr x s d) * (1 / 1152) + eps))⁻¹

/-- The normalised row. -/
def xhat (d : Fin 1152) : ℝ := ctr x s d * rstd x s

/-- The layer norm's backward, as the reference writes it. -/
def lnBwd (d : Fin 1152) : ℝ :=
  rstd x s * (h d * u * (1 + g d) - (∑ d, h d * u * (1 + g d)) * (1 / 1152)
    - xhat x s d * ((∑ d, h d * u * (1 + g d) * xhat x s d) * (1 / 1152)))

/-- The kernel's scale-folded reciprocal standard deviation. -/
def aCo : ℝ := s * rstd x s

/-- The kernel's sum of the gained codes alone. -/
def g1Co : ℝ := ∑ d, (1 + g d) * h d
/-- The sum of the gained codes against the row. -/
def g2Co : ℝ := ∑ d, (1 + g d) * (x d * h d)

/-- The kernel's mean of the gained, scaled codes. -/
def gmCo : ℝ := u * g1Co h g * (1 / 1152)

/-- The kernel's mean of the gained, scaled codes against the normalised row. -/
def gxCo : ℝ := u * aCo x s * (g2Co x h g - mean x * g1Co h g) * (1 / 1152)

/-- The kernel's three coefficients of a row: that of the gained code of `dh`, -/
def alphaCo : ℝ := rstd x s * u
/-- that of the code of `x`, -/
def betaCo : ℝ := rstd x s * aCo x s * gxCo x h g s u
/-- and the constant. -/
def deltaCo : ℝ := betaCo x h g s u * mean x - rstd x s * gmCo h g u

/-- A centred entry is the scale times the centred code. -/
theorem ctr_eq (d : Fin 1152) : ctr x s d = s * (x d - mean x) := by
  unfold ctr mean; rw [← Finset.sum_mul]; ring

/-- The variance by the kernel's one-pass formula is the mean square of the centred row. -/
theorem var_eq :
    max (((∑ d, x d * x d) - mean x * (2 * (∑ d, x d) - 1152 * mean x)) * (1 / 1152)
      - (mean x - mean x) * (mean x - mean x)) 0 * s * s = (∑ d, ctr x s d * ctr x s d) * (1 / 1152) := by
  have e : ∑ d, (x d - mean x) * (x d - mean x)
      = (∑ d, x d * x d) - mean x * (2 * (∑ d, x d) - 1152 * mean x) := by
    have : ∀ d, (x d - mean x) * (x d - mean x) = x d * x d - 2 * mean x * x d + mean x * mean x := fun d => by ring
    simp only [this, Finset.sum_add_distrib, Finset.sum_sub_distrib, ← Finset.mul_sum, Finset.sum_const,
      Finset.card_univ, Fintype.card_fin, nsmul_eq_mul]
    push_cast; ring
  have p : 0 ≤ ∑ d, (x d - mean x) * (x d - mean x) := Finset.sum_nonneg fun d _ => mul_self_nonneg _
  rw [← e, sub_self, mul_zero, sub_zero, max_eq_left (by positivity)]
  have : ∀ d, ctr x s d * ctr x s d = s * s * ((x d - mean x) * (x d - mean x)) := fun d => by rw [ctr_eq]; ring
  simp only [this, ← Finset.mul_sum]; ring

/-- The variance with the epsilon is positive. -/
theorem var_pos : 0 < (∑ d, ctr x s d * ctr x s d) * (1 / 1152) + eps :=
  add_pos_of_nonneg_of_pos (mul_nonneg (Finset.sum_nonneg fun _ _ => mul_self_nonneg _) (by norm_num)) eps_pos

/-- The normalised entry by the kernel's coefficients. -/
theorem xhat_eq (d : Fin 1152) : xhat x s d = aCo x s * (x d - mean x) := by
  unfold xhat aCo; rw [ctr_eq]; ring

/-- The kernel's folded formula of the layer norm's backward is the reference's. -/
theorem lnBwd_eq (d : Fin 1152) :
    h d * (1 + g d) * alphaCo x s u + (deltaCo x h g s u - x d * betaCo x h g s u) = lnBwd x h g s u d := by
  have e1 : ∑ d, h d * u * (1 + g d) = u * g1Co h g := by
    unfold g1Co; rw [Finset.mul_sum]; exact Finset.sum_congr rfl fun d _ => by ring
  have e2 : ∑ d, h d * u * (1 + g d) * xhat x s d = u * aCo x s * (g2Co x h g - mean x * g1Co h g) := by
    unfold g1Co g2Co
    rw [Finset.mul_sum, ← Finset.sum_sub_distrib, Finset.mul_sum]
    exact Finset.sum_congr rfl fun d _ => by rw [xhat_eq]; ring
  unfold lnBwd deltaCo betaCo alphaCo
  rw [e1, e2, xhat_eq]
  unfold gmCo gxCo; unfold aCo; ring

end Cert.Dit

end
-- ==== Proof.Stats.lean ====
/-
  The statistics of 256 rows: the kernel's stores of one sub-tile as functions of the values it loads, and what they are
  over the extended reals when the codes and the scales are finite numbers.
-/
module

public import proofs.«01_k».proof.Proof.Math
public import proofs.«01_k».proof.Proof.Gen.KernelIdeal.Skeleton.P01

@[expose] public section

set_option maxRecDepth 16384

noncomputable section

namespace Cert.KernelIdeal.Gen

open Idealize.ShloMosaic Cert.Dit

section
variable {F : FTy → Type} [FloatOps F] [Named F]
variable (v4 : Vec F S1x1152 .f32) (X : Vec F S1x256x1152 .fp8e4m3) (H : Vec F S1x256x1152 .fp8e5m2) (xs ys hs : Vec F S1x256 .f32)

/-- The rows' means of the unscaled codes. -/
def stMean : FVec F S1x256 .f32 := k0_pay15 (k0_pay11 X)
/-- The rows' reciprocal standard deviations. -/
def stRstd : FVec F S1x256 .f32 := k0_pay16 (k0_pay11 X) (k0_pay12 X) xs
/-- The scale times the reciprocal standard deviation. -/
def stA : FVec F S1x256 .f32 := k0_pay17 (k0_pay11 X) (k0_pay12 X) xs
/-- The mean of the gained, scaled codes of `dh`, before the division. -/
def stGm : FVec F S1x256 .f32 := k0_pay18 (k0_pay13 v4 H) hs
/-- The same against the normalised row, before the division. -/
def stGx : FVec F S1x256 .f32 :=
  k0_pay19 (k0_pay4 v4) (k0_pay9 X H) (k0_pay11 X) (k0_pay12 X) (k0_pay13 v4 H) (constant S16x256 .f32 0x00000000#32) xs hs
/-- The weight of the products in the second statistic. -/
def stW2 : FVec F S1x256 .f32 := k0_pay25 hs (stA X xs)
/-- The four coefficients of the rows, spread over 128 lanes: the scale of `dy`, -/
def co0 : FVec F S1x1x256x128 .f32 := k0_pay21 ys hs (stMean X) (stRstd X xs) (stA X xs) (stGm v4 H hs) (stGx v4 X H xs hs)
/-- the weight of the gained code of `dh`, -/
def co1 : FVec F S1x1x256x128 .f32 := k0_pay22 ys hs (stMean X) (stRstd X xs) (stA X xs) (stGm v4 H hs) (stGx v4 X H xs hs)
/-- the weight of the code of `x`, -/
def co2 : FVec F S1x1x256x128 .f32 := k0_pay23 ys hs (stMean X) (stRstd X xs) (stA X xs) (stGm v4 H hs) (stGx v4 X H xs hs)
/-- and the constant. -/
def co3 : FVec F S1x1x256x128 .f32 := k0_pay24 ys hs (stMean X) (stRstd X xs) (stA X xs) (stGm v4 H hs) (stGx v4 X H xs hs)
/-- The lane numbers. -/
def stLane : IVec S1x256 32 := iota .tc S1x256 32 [1] iota_S1x256_d1_w32
/-- The zero the weights' sign change is taken from. -/
def stZ : F .f32 := Scalar.ofBits .f32 0x00000000#32
/-- The product of the weights with the codes of `dh`. -/
def stRh : FVec F S32x1152 .f32 :=
  k0_pay36 (k0_pay7 H) hs stLane (k0_pay26 (stMean X) (stW2 X xs hs) stZ) (k0_pay27 (F := F)) (k0_pay29 hs stLane)
    (k0_pay30 (stMean X) stLane (stW2 X xs hs) stZ) 128#32 (k0_pay32 stLane) (k0_pay33 stLane)
/-- The weights of the products of the codes. -/
def stLp : FVec F S32x256 .bf16 :=
  k0_pay37 stLane (stW2 X xs hs) (k0_pay27 (F := F)) (k0_pay31 stLane (stW2 X xs hs)) 128#32 (k0_pay32 stLane) (k0_pay33 stLane)
/-- The first two statistics of the first block of 128 rows, -/
def blk0 : FVec F S1x1x2x1152 .f32 := k0_pay39 (stRh X H xs hs) (stLp X xs hs) (k0_pay10 X H)
/-- and of the second. -/
def blk1 : FVec F S1x1x2x1152 .f32 := k0_pay40 (stRh X H xs hs) (stLp X xs hs) (k0_pay10 X H)
end

/-- The first selection is of the lanes below 128, -/
theorem sel0 (r : Fin 256) : k0_pay28 stLane (ix2 0 r) = if r.val < 128 then 1#1 else 0#1 := by
  pointwise [stLane, k0_pay28]
  revert r; decide +kernel

/-- and the second of the others. -/
theorem sel1 (r : Fin 256) :
    k0_pay34 stLane 128#32 (k0_pay32 stLane) (k0_pay33 stLane) (ix2 0 r) = if r.val < 128 then 0#1 else 1#1 := by
  pointwise [stLane, k0_pay34, k0_pay32, k0_pay33]
  revert r; decide +kernel

/-- A selection on a true bit, -/
theorem select_one {α : Type} (a b : α) : Scalar.select 1#1 a b = a := rfl

/-- and on a false one. -/
theorem select_zero {α : Type} (a b : α) : Scalar.select 0#1 a b = b := rfl

/-- A selection of a product against zero is the selection of its first factor. -/
theorem select_mul (c : BitVec 1) (a b : EReal) : Scalar.select c (a * b) 0 = Scalar.select c a 0 * b := by
  unfold Scalar.select; split_ifs <;> simp

/-- A sum over 256 rows of which the last 128 count nothing, -/
theorem sum_low (f : Fin 256 → ℝ) : (∑ r : Fin 256, if r.val < 128 then f r else 0) = ∑ r : Fin 128, f ⟨r.val, by omega⟩ := by
  rw [show (∑ r : Fin 256, if r.val < 128 then f r else 0) = ∑ r : Fin (128 + 128), if r.val < 128 then f r else 0 from rfl,
    Fin.sum_univ_add]
  have h1 : ∀ r : Fin 128, (Fin.castAdd 128 r).val < 128 := fun r => r.isLt
  have h2 : ∀ r : Fin 128, ¬ (Fin.natAdd 128 r).val < 128 := fun r => by simp
  simp only [h1, h2, if_true, if_false, Finset.sum_const_zero, add_zero]
  rfl

/-- and of which the first 128 count nothing. -/
theorem sum_high (f : Fin 256 → ℝ) : (∑ r : Fin 256, if r.val < 128 then 0 else f r) = ∑ r : Fin 128, f ⟨128 + r.val, by omega⟩ := by
  rw [show (∑ r : Fin 256, if r.val < 128 then 0 else f r) = ∑ r : Fin (128 + 128), if r.val < 128 then 0 else f r from rfl,
    Fin.sum_univ_add]
  have h1 : ∀ r : Fin 128, (Fin.castAdd 128 r).val < 128 := fun r => r.isLt
  have h2 : ∀ r : Fin 128, ¬ (Fin.natAdd 128 r).val < 128 := fun r => by simp
  simp only [h1, h2, if_true, if_false, Finset.sum_const_zero, zero_add]
  rfl

section
variable {v4 : Vec Ideal S1x1152 .f32} {X : Vec Ideal S1x256x1152 .fp8e4m3} {H : Vec Ideal S1x256x1152 .fp8e5m2}
  {xs ys hs : Vec Ideal S1x256 .f32}
variable {x h : Fin 256 → Fin 1152 → ℝ} {g : Fin 1152 → ℝ} {s u : Fin 256 → ℝ}
  (hX : ∀ r d, X (ix3 0 r d) = ((x r d : ℝ) : EReal)) (hH : ∀ r d, H (ix3 0 r d) = ((h r d : ℝ) : EReal))
  (hv : ∀ d, v4 (ix2 0 d) = ((g d : ℝ) : EReal)) (hs' : ∀ r, xs (ix2 0 r) = ((s r : ℝ) : EReal))
  (hu : ∀ r, hs (ix2 0 r) = ((u r : ℝ) : EReal))
include hX

/-- The rows' means. -/
theorem stMean_eq (r : Fin 256) : stMean X (ix2 0 r) = ((mean (x r) : ℝ) : EReal) := by
  pointwise [stMean, k0_pay15, k0_pay11, k0_pay5, k0_pay6, inv_d]
  simp only [hX, ← coe_sum, ← EReal.coe_mul]
  rfl

include hs'

/-- The rows' reciprocal standard deviations. -/
theorem stRstd_eq (r : Fin 256) : stRstd X xs (ix2 0 r) = ((rstd (x r) (s r) : ℝ) : EReal) := by
  pointwise [stRstd, k0_pay16, k0_pay15, k0_pay12, k0_pay11, k0_pay5, k0_pay6, k0_pay8, inv_d, ofBits_two, ofBits_1152, ofBits_eps]
  simp only [hX, hs', ← EReal.coe_zero, ← coe_sum, ← EReal.coe_mul, ← EReal.coe_sub, ← EReal.coe_add, ← EReal.coe_strictMono.monotone.map_max]
  have e := var_eq (x r) (s r)
  unfold mean at e
  rw [e, rsqrt_pos (var_pos (x r) (s r))]
  rfl

/-- The scale times it. -/
theorem stA_eq (r : Fin 256) : stA X xs (ix2 0 r) = ((aCo (x r) (s r) : ℝ) : EReal) := by
  have e : stA X xs (ix2 0 r) = xs (ix2 0 r) * stRstd X xs (ix2 0 r) := by
    unfold stA stRstd; pointwise [k0_pay17]
  rw [e, stRstd_eq hX hs', hs', ← EReal.coe_mul]
  rfl

include hu

/-- The weight of the products. -/
theorem stW2_eq (r : Fin 256) : stW2 X xs hs (ix2 0 r) = ((u r * aCo (x r) (s r) : ℝ) : EReal) := by
  pointwise [stW2, k0_pay25]
  rw [stA_eq hX hs', hu, ← EReal.coe_mul]

omit hX hs' in
include hH hv in
/-- The gained mean before the division. -/
theorem stGm_eq (r : Fin 256) : stGm v4 H hs (ix2 0 r) = ((u r * g1Co (h r) g * (1 / 1152) : ℝ) : EReal) := by
  pointwise [stGm, k0_pay18, k0_pay14, k0_pay13, k0_pay4, k0_pay3, k0_pay7, inv_d]
  simp only [hH, hv, hu, ← EReal.coe_one, ← coe_sum, ← EReal.coe_mul, ← EReal.coe_sub, ← EReal.coe_add]
  simp [g1Co]

include hH hv

/-- The gained mean against the row before the division. -/
theorem stGx_eq (r : Fin 256) :
    stGx v4 X H xs hs (ix2 0 r) = ((u r * aCo (x r) (s r) * (g2Co (x r) (h r) g - mean (x r) * g1Co (h r) g) : ℝ) : EReal) := by
  have e0 : k0_pay15 (k0_pay11 X) (ix2 0 r) = ((mean (x r) : ℝ) : EReal) := stMean_eq hX r
  have e1 : k0_pay17 (k0_pay11 X) (k0_pay12 X) xs (ix2 0 r) = ((aCo (x r) (s r) : ℝ) : EReal) := stA_eq hX hs' r
  pointwise [stGx, k0_pay19, k0_pay4, k0_pay9, k0_pay13, k0_pay14, k0_pay3, k0_pay7, k0_pay8, k0_pay6]
  rw [e0, e1]
  simp only [hX, hH, hv, hu, ← EReal.coe_one, ← coe_sum, ← EReal.coe_mul, ← EReal.coe_sub, ← EReal.coe_add]
  simp [g1Co, g2Co]

omit hX hH hv hs' hu in
/-- The first coefficient is the scale of `dy`, -/
theorem co0_eq (r : Fin 256) (l : Fin 128) : co0 v4 X H xs ys hs (ix4 0 0 r l) = ys (ix2 0 r) := by
  pointwise [co0, k0_pay21, k0_pay20]

omit hH hv in
/-- the second the weight of the gained code of `dh`, -/
theorem co1_eq (r : Fin 256) (l : Fin 128) : co1 v4 X H xs ys hs (ix4 0 0 r l) = ((alphaCo (x r) (s r) (u r) : ℝ) : EReal) := by
  pointwise [co1, k0_pay22, k0_pay20]
  rw [stRstd_eq hX hs', hu, ← EReal.coe_mul]
  rfl

/-- the third the weight of the code of `x`, -/
theorem co2_eq (r : Fin 256) (l : Fin 128) :
    co2 v4 X H xs ys hs (ix4 0 0 r l) = ((betaCo (x r) (h r) g (s r) (u r) : ℝ) : EReal) := by
  pointwise [co2, k0_pay23, k0_pay20, inv_d]
  rw [stRstd_eq hX hs', stA_eq hX hs', stGx_eq hX hH hv hs' hu]
  simp only [← EReal.coe_mul]
  rfl

/-- and the fourth the constant. -/
theorem co3_eq (r : Fin 256) (l : Fin 128) :
    co3 v4 X H xs ys hs (ix4 0 0 r l) = ((deltaCo (x r) (h r) g (s r) (u r) : ℝ) : EReal) := by
  pointwise [co3, k0_pay24, k0_pay20, inv_d]
  rw [stRstd_eq hX hs', stA_eq hX hs', stGx_eq hX hH hv hs' hu, stGm_eq hH hv hu, stMean_eq hX]
  simp only [← EReal.coe_mul, ← EReal.coe_sub]
  rfl

omit hX hH hv hs' in
/-- The weights of the first statistic: the scales of `dh`, block by block, -/
theorem wSh0 (r : Fin 256) : k0_pay29 hs stLane (ix2 0 r) = ((if r.val < 128 then u r else 0 : ℝ) : EReal) := by
  pointwise [k0_pay29]
  rw [sel0]; split_ifs <;> simp [select_one, select_zero, hu]

omit hH hv in
/-- and those of the second: against the codes of `dh` -/
theorem wSc (r : Fin 256) :
    k0_pay26 (stMean X) (stW2 X xs hs) stZ (ix2 0 r) = ((-(u r * aCo (x r) (s r)) * mean (x r) : ℝ) : EReal) := by
  pointwise [k0_pay26, stZ]
  rw [stW2_eq hX hs' hu, stMean_eq hX, ← EReal.coe_zero, ← EReal.coe_sub, ← EReal.coe_mul, zero_sub]

omit hH hv in
/-- (in the first block) -/
theorem wSc0 (r : Fin 256) : k0_pay30 (stMean X) stLane (stW2 X xs hs) stZ (ix2 0 r)
    = ((if r.val < 128 then -(u r * aCo (x r) (s r)) * mean (x r) else 0 : ℝ) : EReal) := by
  pointwise [k0_pay30]
  rw [sel0, wSc hX hs' hu]; split_ifs <;> simp [select_one, select_zero]

omit hH hv in
/-- and against the products. -/
theorem wPr0 (r : Fin 256) : k0_pay31 stLane (stW2 X xs hs) (ix2 0 r)
    = ((if r.val < 128 then u r * aCo (x r) (s r) else 0 : ℝ) : EReal) := by
  pointwise [k0_pay31]
  rw [sel0, stW2_eq hX hs' hu]; split_ifs <;> simp [select_one, select_zero]

omit hX hH hv hs' in
/-- The weights in the second block of 128 rows: the scales of `dh`, -/
theorem wSh1 (r : Fin 256) :
    Scalar.select (k0_pay34 stLane 128#32 (k0_pay32 stLane) (k0_pay33 stLane) (ix2 0 r)) (hs (ix2 0 r)) (0 : EReal)
      = ((if r.val < 128 then 0 else u r : ℝ) : EReal) := by
  rw [sel1]; split_ifs <;> simp [select_one, select_zero, hu]

omit hH hv in
/-- against the codes of `dh`, -/
theorem wSc1 (r : Fin 256) :
    Scalar.select (k0_pay34 stLane 128#32 (k0_pay32 stLane) (k0_pay33 stLane) (ix2 0 r))
        (k0_pay26 (stMean X) (stW2 X xs hs) stZ (ix2 0 r)) (0 : EReal)
      = ((if r.val < 128 then 0 else -(u r * aCo (x r) (s r)) * mean (x r) : ℝ) : EReal) := by
  rw [sel1, wSc hX hs' hu]; split_ifs <;> simp [select_one, select_zero]

omit hH hv in
/-- and against the products. -/
theorem wPr1 (r : Fin 256) :
    Scalar.select (k0_pay34 stLane 128#32 (k0_pay32 stLane) (k0_pay33 stLane) (ix2 0 r)) (stW2 X xs hs (ix2 0 r)) (0 : EReal)
      = ((if r.val < 128 then 0 else u r * aCo (x r) (s r) : ℝ) : EReal) := by
  rw [sel1, stW2_eq hX hs' hu]; split_ifs <;> simp [select_one, select_zero]

omit hv in
set_option maxHeartbeats 1000000 in
/-- The sum of the scaled rows of `dh` over the first 128 rows. -/
theorem blk0_shift (l : Fin 1152) :
    blk0 X H xs hs (ix4 0 0 0 l) = ((∑ r : Fin 128, h ⟨r.val, by omega⟩ l * u ⟨r.val, by omega⟩ : ℝ) : EReal) := by
  pointwise [blk0, k0_pay39, k0_pay38, stRh, k0_pay36, stLp, k0_pay37, k0_pay35, k0_pay27, k0_pay10, k0_pay9, k0_pay7, k0_pay8, k0_pay6]
  simp only [wSh0 hu, hX, hH, ← EReal.coe_zero, ← coe_sum, ← EReal.coe_mul, ← EReal.coe_sub, ← EReal.coe_add]
  simp only [sub_self, zero_mul, Finset.sum_const_zero, zero_add, add_zero, ite_mul, sum_low]
  simp only [mul_comm]

omit hv in
set_option maxHeartbeats 1000000 in
/-- The sum of the scaled rows of `dh` over the last 128 rows. -/
theorem blk1_shift (l : Fin 1152) :
    blk1 X H xs hs (ix4 0 0 0 l) = ((∑ r : Fin 128, h ⟨128 + r.val, by omega⟩ l * u ⟨128 + r.val, by omega⟩ : ℝ) : EReal) := by
  pointwise [blk1, k0_pay40, k0_pay38, stRh, k0_pay36, stLp, k0_pay37, k0_pay35, k0_pay27, k0_pay10, k0_pay9, k0_pay7, k0_pay8, k0_pay6]
  simp only [select_mul]
  simp only [wSh1 hu, hX, hH]
  simp only [← EReal.coe_zero, ← coe_sum, ← EReal.coe_mul, ← EReal.coe_sub, ← EReal.coe_add]
  simp only [sub_self, zero_mul, Finset.sum_const_zero, zero_add, add_zero, ite_mul, sum_high]
  simp only [mul_comm]

omit hX hH hv hs' hu in
/-- The weights of the second statistic give the scaled rows of `dh` against the normalised rows. -/
theorem scale_term (x h : Fin 1152 → ℝ) (s u : ℝ) (l : Fin 1152) :
    -(u * aCo x s) * mean x * h l + u * aCo x s * (x l * h l) = h l * u * xhat x s l := by
  rw [xhat_eq]; ring

omit hv in
set_option maxHeartbeats 1000000 in
/-- The sum of the scaled rows of `dh` against the normalised rows of `x`, over the first 128 rows, -/
theorem blk0_scale (l : Fin 1152) :
    blk0 X H xs hs (ix4 0 0 1 l) = ((∑ r : Fin 128, h ⟨r.val, by omega⟩ l * u ⟨r.val, by omega⟩
      * xhat (x ⟨r.val, by omega⟩) (s ⟨r.val, by omega⟩) l : ℝ) : EReal) := by
  pointwise [blk0, k0_pay39, k0_pay38, stRh, k0_pay36, stLp, k0_pay37, k0_pay35, k0_pay27, k0_pay10, k0_pay9, k0_pay7, k0_pay8, k0_pay6]
  simp only [wSc0 hX hs' hu, wPr0 hX hs' hu, hX, hH, ← EReal.coe_zero, ← coe_sum, ← EReal.coe_mul, ← EReal.coe_sub, ← EReal.coe_add]
  simp only [sub_self, zero_mul, Finset.sum_const_zero, zero_add, add_zero, ite_mul, sum_low, ← Finset.sum_add_distrib, scale_term]

omit hv in
set_option maxHeartbeats 1000000 in
/-- and over the last 128. -/
theorem blk1_scale (l : Fin 1152) :
    blk1 X H xs hs (ix4 0 0 1 l) = ((∑ r : Fin 128, h ⟨128 + r.val, by omega⟩ l * u ⟨128 + r.val, by omega⟩
      * xhat (x ⟨128 + r.val, by omega⟩) (s ⟨128 + r.val, by omega⟩) l : ℝ) : EReal) := by
  pointwise [blk1, k0_pay40, k0_pay38, stRh, k0_pay36, stLp, k0_pay37, k0_pay35, k0_pay27, k0_pay10, k0_pay9, k0_pay7, k0_pay8, k0_pay6]
  simp only [select_mul]
  simp only [wSc1 hX hs' hu, wPr1 hX hs' hu, hX, hH]
  simp only [← EReal.coe_zero, ← coe_sum, ← EReal.coe_mul, ← EReal.coe_sub, ← EReal.coe_add]
  simp only [sub_self, zero_mul, Finset.sum_const_zero, zero_add, add_zero, ite_mul, sum_high, ← Finset.sum_add_distrib, scale_term]

end

end Cert.KernelIdeal.Gen

end
-- ==== Proof.Tiles.lean ====
/-
  The tiles of the input gradient and of the third statistic: the kernel's store of one tile as a function of the values
  it loads, and what it is over the extended reals.
-/
module

public import proofs.«01_k».proof.Proof.Stats
public import Idealize.ShloMosaic.Lib.Pipeline.ReadBack

@[expose] public section

set_option maxRecDepth 16384

noncomputable section

namespace Cert.KernelIdeal.Gen

open Idealize.ShloMosaic Cert.Dit

section
variable {F : FTy → Type} [FloatOps F] [Named F]

/-- One tile of the input gradient, of 32 rows and 128 columns: from the codes of `x`, `dh` and `dy`, the gain and the
    four coefficients. -/
def dxTile (x : Vec F S1x32x128 .fp8e4m3) (h y : Vec F S1x32x128 .fp8e5m2) (gc : FVec F S1x128 .f32)
    (ys al be de : Vec F S1x1x32x128 .f32) : FVec F S1x32x128 .bf16 :=
  shapeCast S1x32x128 (truncf .bf16 (addf
      (mulf (extf .f32 (shapeCast S32x128 y shapeCasts_S1x32x128_S32x128) bitsLt_fp8e5m2_f32) (shapeCast S32x128 ys shapeCasts_S1x1x32x128_S32x128))
      (addf (mulf (mulf (extf .f32 (shapeCast S32x128 h shapeCasts_S1x32x128_S32x128) bitsLt_fp8e5m2_f32) (broadcastTo S32x128 gc broadcasts_S1x128_S32x128))
          (shapeCast S32x128 al shapeCasts_S1x1x32x128_S32x128))
        (subf (shapeCast S32x128 de shapeCasts_S1x1x32x128_S32x128)
          (mulf (extf .f32 (shapeCast S32x128 x shapeCasts_S1x32x128_S32x128) bitsLt_fp8e4m3_f32) (shapeCast S32x128 be shapeCasts_S1x1x32x128_S32x128)))))
    bitsLt_bf16_f32) shapeCasts_S32x128_S1x32x128

/-- The products of one tile of `dy` with the branch's output. -/
def gateProd (y : Vec F S1x32x128 .fp8e5m2) (f : Vec F S1x32x128 .bf16) (ys : Vec F S1x1x32x128 .f32) : FVec F S32x128 .f32 :=
  mulf (mulf (extf .f32 (shapeCast S32x128 y shapeCasts_S1x32x128_S32x128) bitsLt_fp8e5m2_f32) (shapeCast S32x128 ys shapeCasts_S1x1x32x128_S32x128))
    (extf .f32 (shapeCast S32x128 f shapeCasts_S1x32x128_S32x128) bitsLt_bf16_f32)

/-- The four groups of eight rows of a tile, added. -/
def gatePart (t : FVec F S32x128 .f32) : FVec F S8x128 .f32 :=
  addf (addf (extractStridedSlice S8x128 ![0, 0] t slices_S32x128_o0_0_S8x128) (extractStridedSlice S8x128 ![8, 0] t slices_S32x128_o8_0_S8x128))
    (addf (extractStridedSlice S8x128 ![16, 0] t slices_S32x128_o16_0_S8x128) (extractStridedSlice S8x128 ![24, 0] t slices_S32x128_o24_0_S8x128))

/-- One store of the third statistic: four tiles' products summed over their 128 rows. -/
def gateTile (t0 t1 t2 t3 : FVec F S32x128 .f32) : FVec F S1x1x1x128 .f32 :=
  shapeCast S1x1x1x128 (shapeCast S1x128
    (multiReduction .add [0] S128 (addf (addf (addf (gatePart t0) (gatePart t1)) (gatePart t2)) (gatePart t3)) 0x00000000#32
      reduces_S8x128_S128 (.inl rfl) rfl) shapeCasts_S128_S1x128) shapeCasts_S1x128_S1x1x1x128
end

/-- A tile of the input gradient, at an element. -/
theorem dxTile_apply (x : Vec Ideal S1x32x128 .fp8e4m3) (h y : Vec Ideal S1x32x128 .fp8e5m2) (gc : FVec Ideal S1x128 .f32)
    (ys al be de : Vec Ideal S1x1x32x128 .f32) (r : Fin 32) (l : Fin 128) :
    dxTile x h y gc ys al be de (ix3 0 r l) = y (ix3 0 r l) * ys (ix4 0 0 r l)
      + (h (ix3 0 r l) * gc (ix2 0 l) * al (ix4 0 0 r l) + (de (ix4 0 0 r l) - x (ix3 0 r l) * be (ix4 0 0 r l))) := by
  pointwise [dxTile]

/-- A tile's products, at an element. -/
theorem gateProd_apply (y : Vec Ideal S1x32x128 .fp8e5m2) (f : Vec Ideal S1x32x128 .bf16) (ys : Vec Ideal S1x1x32x128 .f32)
    (r : Fin 32) (l : Fin 128) : gateProd y f ys (ix2 r l) = y (ix3 0 r l) * ys (ix4 0 0 r l) * f (ix3 0 r l) := by
  pointwise [gateProd]

/-- A sum of 128 terms by eight sublanes of sixteen terms each. -/
theorem gate_sum (f : Fin 128 → EReal) :
    (∑ r : Fin 128, f r) = ∑ q : Fin 16, ∑ j : Fin 8, f ⟨8 * q.val + j.val, by omega⟩ := by
  rw [← Fintype.sum_prod_type' (f := fun (q : Fin 16) (j : Fin 8) => f ⟨8 * q.val + j.val, by omega⟩)]
  exact ((Equiv.sum_comp (finProdFinEquiv (m := 16) (n := 8)) f).symm.trans
    (Finset.sum_congr rfl fun p _ => congrArg f (Fin.ext (by simp [finProdFinEquiv]; omega))))

/-- The store of the third statistic is the sum over the 128 rows of its four tiles. -/
theorem gateTile_apply (t0 t1 t2 t3 : FVec Ideal S32x128 .f32) (l : Fin 128) (f : Fin 128 → EReal)
    (h0 : ∀ r : Fin 32, t0 (ix2 r l) = f ⟨r.val, by omega⟩) (h1 : ∀ r : Fin 32, t1 (ix2 r l) = f ⟨32 + r.val, by omega⟩)
    (h2 : ∀ r : Fin 32, t2 (ix2 r l) = f ⟨64 + r.val, by omega⟩) (h3 : ∀ r : Fin 32, t3 (ix2 r l) = f ⟨96 + r.val, by omega⟩) :
    gateTile t0 t1 t2 t3 (ix4 0 0 0 l) = ∑ r : Fin 128, f r := by
  pointwise [gateTile, gatePart]
  simp only [h0, h1, h2, h3]
  rw [gate_sum, Finset.sum_comm]
  refine Finset.sum_congr rfl fun j _ => ?_
  simp only [Fin.sum_univ_succ, Fin.sum_univ_zero, Fin.val_succ, Fin.val_zero, Nat.mul_zero, Nat.zero_add, Nat.reduceAdd, Nat.reduceMul,
    ← Nat.add_assoc, add_zero]
  abel

section
variable (b : Fin 5) (X2 X3 X4 : Vec Ideal S5x1024 .f32) (X5 : Vec Ideal S1x1024x1152 .fp8e4m3) (X6 : Vec Ideal S1x1024x1152 .bf16)
  (X7 X8 : Vec Ideal S1x1024x1152 .fp8e5m2) (X9 : Vec Ideal S5x1152 .f32)
  (x h : Fin 1024 → Fin 1152 → ℝ) (g : Fin 1152 → ℝ) (s u : Fin 1024 → ℝ)

/-- The blocks a grid point reads are real numbers: the codes `x` and `h`, the scales `s` and `u` and the modulation `g`. -/
structure Reals : Prop where
  x : ∀ r d, X5 (ix3 0 r d) = ((x r d : ℝ) : EReal)
  h : ∀ r d, X8 (ix3 0 r d) = ((h r d : ℝ) : EReal)
  g : ∀ d, X9 (ix2 b d) = ((g d : ℝ) : EReal)
  s : ∀ r, X2 (ix2 b r) = ((s r : ℝ) : EReal)
  u : ∀ r, X4 (ix2 b r) = ((u r : ℝ) : EReal)

/-- The four coefficients of a row. -/
def coAt (j : Fin 4) (r : Fin 1024) : EReal :=
  match j with
  | 0 => X3 (ix2 b r)
  | 1 => ((alphaCo (x r) (s r) (u r) : ℝ) : EReal)
  | 2 => ((betaCo (x r) (h r) g (s r) (u r) : ℝ) : EReal)
  | 3 => ((deltaCo (x r) (h r) g (s r) (u r) : ℝ) : EReal)

/-- The input gradient of a grid point's rows. -/
def dxG : Vec Ideal S1x1024x1152 .bf16 := fun y =>
  X7 y * X3 (ix2 b (y 1)) + ((lnBwd (x (y 1)) (h (y 1)) g (s (y 1)) (u (y 1)) (y 2) : ℝ) : EReal)

end

section
variable {b : Fin 5} {X2 X3 X4 : Vec Ideal S5x1024 .f32} {X5 : Vec Ideal S1x1024x1152 .fp8e4m3} {X6 : Vec Ideal S1x1024x1152 .bf16}
  {X7 X8 : Vec Ideal S1x1024x1152 .fp8e5m2} {X9 : Vec Ideal S5x1152 .f32}
  {x h : Fin 1024 → Fin 1152 → ℝ} {g : Fin 1152 → ℝ} {s u : Fin 1024 → ℝ}

/-- The row of the modulation a grid point loads. -/
theorem ld_mod {off : Fin 2 → ℕ} (ho : off = ![b.val, 0]) (inb : ∀ a, off a + S1x1152.size a ≤ S5x1152.size a) (d : Fin 1152) :
    View.ld X9 (Rect.unit (s := S5x1152) off S1x1152.size inb) (ix2 0 d) = X9 (ix2 b d) := by
  subst ho; pointwise

/-- A stretch of a row of scales. -/
theorem ld_scale {k : ℕ} {off : Fin 2 → ℕ} (ho : off = ![b.val, k]) (inb : ∀ a, off a + S1x256.size a ≤ S5x1024.size a)
    (hk : k + 256 ≤ 1024) (r : Fin 256) :
    View.ld X2 (Rect.unit (s := S5x1024) off S1x256.size inb) (ix2 0 r) = X2 (ix2 b ⟨k + r.val, by omega⟩) := by
  subst ho; pointwise

/-- 256 rows of a block of codes. -/
theorem ld_rows {k : ℕ} (inb : ∀ a, (![0, k, 0] : Fin 3 → ℕ) a + S1x256x1152.size a ≤ S1x1024x1152.size a)
    (hk : k + 256 ≤ 1024) (r : Fin 256) (d : Fin 1152) :
    View.ld X5 (Rect.unit (s := S1x1024x1152) ![0, k, 0] S1x256x1152.size inb) (ix3 0 r d) = X5 (ix3 0 ⟨k + r.val, by omega⟩ d) := by
  pointwise

/-- The gain of 128 columns. -/
theorem gain_apply (v4 : Vec Ideal S1x1152 .f32) (hv : ∀ d, v4 (ix2 0 d) = X9 (ix2 b d)) (c0 : ℕ) (hc : c0 + 128 ≤ 1152)
    (hsl : S1x1152.Slices ![0, c0] S1x128) (l : Fin 128) :
    extractStridedSlice S1x128 ![0, c0] (k0_pay3 v4) hsl (ix2 0 l) = 1 + X9 (ix2 b ⟨c0 + l.val, by omega⟩) := by
  pointwise [k0_pay3]
  rw [hv]

/-- What the list `L` of stores leaves in slot `sl` of the coefficients: those of the 256 rows from `k`. -/
def Holds (b : Fin 5) (X3 : Vec Ideal S5x1024 .f32) (x h : Fin 1024 → Fin 1152 → ℝ) (g : Fin 1152 → ℝ) (s u : Fin 1024 → ℝ)
    (L : List (View.Piece (Elt Ideal) S2x4x256x128 .f32)) (sl : Fin 2) (k : ℕ) (hk : k + 256 ≤ 1024) : Prop :=
  ∀ (j : Fin 4) (r : Fin 256) (l : Fin 128), View.canon L (ix4 sl j r l) = coAt b X3 x h g s u j ⟨k + r.val, by omega⟩

/-- A load of 32 rows of a coefficient. -/
theorem Holds.ld {sg : RefSig} {κ : Kind} {sp : Space} (v : View sg κ sp S2x4x256x128 .f32) {L : List (View.Piece (Elt Ideal) S2x4x256x128 .f32)}
    {sl : Fin 2} {k : ℕ} {hk : k + 256 ≤ 1024} (H : Holds b X3 x h g s u L sl k hk) (j : Fin 4) (l0 : ℕ)
    (inb : ∀ a, (![sl.val, j.val, l0, 0] : Fin 4 → ℕ) a + S1x1x32x128.size a ≤ S2x4x256x128.size a) (hl : l0 + 32 ≤ 256)
    (r : Fin 32) (l : Fin 128) :
    v.readCov L (Rect.unit (s := S2x4x256x128) ![sl.val, j.val, l0, 0] S1x1x32x128.size inb).toLoadRect (ix4 0 0 r l)
      = coAt b X3 x h g s u j ⟨k + (l0 + r.val), by omega⟩ := by
  rw [View.readCov_eq_canon', ← H j ⟨l0 + r.val, by omega⟩ l]
  refine congrArg (View.canon L) ?_
  funext a
  refine Fin.ext ?_
  match a with
  | 0 => rfl
  | 1 => rfl
  | 2 => show l0 + 1 * r.val = l0 + r.val; omega
  | 3 => show 0 + 1 * l.val = l.val; omega

/-- A tile of the input gradient is the block of `dxG` it is stored at. -/
theorem dx_piece {v5 : Vec Ideal S1x1024x1152 .fp8e4m3} (R : Reals b X2 X4 v5 X8 X9 x h g s u)
    {v4 : Vec Ideal S1x1152 .f32} (hv : ∀ d, v4 (ix2 0 d) = X9 (ix2 b d))
    {sg : RefSig} {κ : Kind} {sp : Space} (vw : View sg κ sp S2x4x256x128 .f32)
    {L : List (View.Piece (Elt Ideal) S2x4x256x128 .f32)} {sl : Fin 2} {k : ℕ} {hk : k + 256 ≤ 1024} (H : Holds b X3 x h g s u L sl k hk)
    (r0 c0 : ℕ) (inb : ∀ a, (![0, r0, c0] : Fin 3 → ℕ) a + S1x32x128.size a ≤ S1x1024x1152.size a) (hsl : S1x1152.Slices ![0, c0] S1x128)
    (i0 : ∀ a, (![sl.val, 0, r0 - k, 0] : Fin 4 → ℕ) a + S1x1x32x128.size a ≤ S2x4x256x128.size a)
    (i1 : ∀ a, (![sl.val, 1, r0 - k, 0] : Fin 4 → ℕ) a + S1x1x32x128.size a ≤ S2x4x256x128.size a)
    (i2 : ∀ a, (![sl.val, 2, r0 - k, 0] : Fin 4 → ℕ) a + S1x1x32x128.size a ≤ S2x4x256x128.size a)
    (i3 : ∀ a, (![sl.val, 3, r0 - k, 0] : Fin 4 → ℕ) a + S1x1x32x128.size a ≤ S2x4x256x128.size a)
    (hr : k ≤ r0) {w : Vec Ideal S1x32x128 .bf16}
    (hw : w = dxTile (View.ld v5 (Rect.unit (s := S1x1024x1152) ![0, r0, c0] S1x32x128.size inb))
      (View.ld X8 (Rect.unit (s := S1x1024x1152) ![0, r0, c0] S1x32x128.size inb))
      (View.ld X7 (Rect.unit (s := S1x1024x1152) ![0, r0, c0] S1x32x128.size inb))
      (extractStridedSlice S1x128 ![0, c0] (k0_pay3 v4) hsl)
      (vw.readCov L (Rect.unit (s := S2x4x256x128) ![sl.val, 0, r0 - k, 0] S1x1x32x128.size i0).toLoadRect)
      (vw.readCov L (Rect.unit (s := S2x4x256x128) ![sl.val, 1, r0 - k, 0] S1x1x32x128.size i1).toLoadRect)
      (vw.readCov L (Rect.unit (s := S2x4x256x128) ![sl.val, 2, r0 - k, 0] S1x1x32x128.size i2).toLoadRect)
      (vw.readCov L (Rect.unit (s := S2x4x256x128) ![sl.val, 3, r0 - k, 0] S1x1x32x128.size i3).toLoadRect)) :
    ∀ y : S1x32x128.Idx, w y = dxG b X3 X7 x h g s u ((Rect.unit (s := S1x1024x1152) ![0, r0, c0] S1x32x128.size inb).emb y) := by
  have b0 : r0 - k + 32 ≤ 256 := i0 2
  have b1 : r0 + 32 ≤ 1024 := inb 1
  have b2 : c0 + 128 ≤ 1152 := inb 2
  subst hw
  intro y
  obtain ⟨z, r, l, rfl⟩ : ∃ (z : Fin 1) (r : Fin 32) (l : Fin 128), y = ix3 z r l := ⟨y 0, y 1, y 2, by funext a; match a with | 0 => rfl | 1 => rfl | 2 => rfl⟩
  obtain rfl : z = 0 := Subsingleton.elim _ _
  have ee : (Rect.unit (s := S1x1024x1152) ![0, r0, c0] S1x32x128.size inb).emb (ix3 0 r l)
      = ix3 0 ⟨r0 + r.val, by omega⟩ ⟨c0 + l.val, by omega⟩ := by
    funext a
    refine Fin.ext ?_
    match a with
    | 0 => rfl
    | 1 => show r0 + 1 * r.val = r0 + r.val; omega
    | 2 => show c0 + 1 * l.val = c0 + l.val; omega
  have er : (⟨k + (r0 - k + r.val), by omega⟩ : Fin 1024) = ⟨r0 + r.val, by omega⟩ := Fin.ext (by show k + (r0 - k + r.val) = r0 + r.val; omega)
  have ld {e : EltTy} (X : Vec Ideal S1x1024x1152 e) : View.ld X (Rect.unit (s := S1x1024x1152) ![0, r0, c0] S1x32x128.size inb) (ix3 0 r l)
      = X (ix3 0 ⟨r0 + r.val, by omega⟩ ⟨c0 + l.val, by omega⟩) := congrArg X ee
  have e0 := H.ld vw 0 _ i0 b0 r l
  have e1 := H.ld vw 1 _ i1 b0 r l
  have e2 := H.ld vw 2 _ i2 b0 r l
  have e3 := H.ld vw 3 _ i3 b0 r l
  rw [er] at e0 e1 e2 e3
  rw [ee, dxTile_apply]
  erw [e0, e1, e2, e3]
  rw [ gain_apply v4 hv c0 b2, ld v5, ld X8, ld X7,
    R.x, R.h, R.g]
  refine .trans ?_ (congrArg (fun t : ℝ => X7 (ix3 0 ⟨r0 + r.val, by omega⟩ ⟨c0 + l.val, by omega⟩) * X3 (ix2 b ⟨r0 + r.val, by omega⟩) + (t : EReal))
    (lnBwd_eq (x ⟨r0 + r.val, by omega⟩) (h ⟨r0 + r.val, by omega⟩) g (s ⟨r0 + r.val, by omega⟩) (u ⟨r0 + r.val, by omega⟩) ⟨c0 + l.val, by omega⟩))
  simp only [EReal.coe_add, EReal.coe_mul, EReal.coe_sub, EReal.coe_one]
  rfl

/-- One of the three statistics of 128 rows at one column: the sum of the shift's, the scale's or the gate's terms. -/
def blkAt (b : Fin 5) (X3 : Vec Ideal S5x1024 .f32) (X6 : Vec Ideal S1x1024x1152 .bf16) (X7 : Vec Ideal S1x1024x1152 .fp8e5m2)
    (x h : Fin 1024 → Fin 1152 → ℝ) (s u : Fin 1024 → ℝ) (row : Fin 128 → Fin 1024) (d : Fin 1152) (j : Fin 3) : EReal :=
  match j with
  | 0 => ((∑ r, h (row r) d * u (row r) : ℝ) : EReal)
  | 1 => ((∑ r, h (row r) d * u (row r) * xhat (x (row r)) (s (row r)) d : ℝ) : EReal)
  | 2 => ∑ r, X7 (ix3 0 (row r) d) * X3 (ix2 b (row r)) * X6 (ix3 0 (row r) d)

/-- Row `r` of block `q` of a grid point's 1024 rows. -/
def rowOf (q : Fin 8) (r : Fin 128) : Fin 1024 := ⟨128 * q.val + r.val, by omega⟩

/-- The three statistics of a grid point's blocks of 128 rows. -/
def blkG (b : Fin 5) (X3 : Vec Ideal S5x1024 .f32) (X6 : Vec Ideal S1x1024x1152 .bf16) (X7 : Vec Ideal S1x1024x1152 .fp8e5m2)
    (x h : Fin 1024 → Fin 1152 → ℝ) (s u : Fin 1024 → ℝ) : Vec Ideal S1x8x3x1152 .f32 := fun y =>
  blkAt b X3 X6 X7 x h s u (rowOf (y 1)) (y 3) (y 2)

/-- A tile's products are the terms of the third statistic. -/
theorem gate_prod {sg : RefSig} {κ : Kind} {sp : Space} (vw : View sg κ sp S2x4x256x128 .f32)
    {L : List (View.Piece (Elt Ideal) S2x4x256x128 .f32)} {sl : Fin 2} {k : ℕ} {hk : k + 256 ≤ 1024} (H : Holds b X3 x h g s u L sl k hk)
    (r0 c0 : ℕ) (inb : ∀ a, (![0, r0, c0] : Fin 3 → ℕ) a + S1x32x128.size a ≤ S1x1024x1152.size a)
    (i0 : ∀ a, (![sl.val, 0, r0 - k, 0] : Fin 4 → ℕ) a + S1x1x32x128.size a ≤ S2x4x256x128.size a)
    (hr : k ≤ r0) (r : Fin 32) (l : Fin 128) (m : ℕ) (hm : m + r.val < 1024) (em : r0 = m) (n : Fin 1152) (en : c0 + l.val = n.val) :
    gateProd (View.ld X7 (Rect.unit (s := S1x1024x1152) ![0, r0, c0] S1x32x128.size inb))
      (View.ld X6 (Rect.unit (s := S1x1024x1152) ![0, r0, c0] S1x32x128.size inb))
      (vw.readCov L (Rect.unit (s := S2x4x256x128) ![sl.val, 0, r0 - k, 0] S1x1x32x128.size i0).toLoadRect) (ix2 r l)
      = X7 (ix3 0 ⟨m + r.val, hm⟩ n) * X3 (ix2 b ⟨m + r.val, hm⟩) * X6 (ix3 0 ⟨m + r.val, hm⟩ n) := by
  have b0 : r0 - k + 32 ≤ 256 := i0 2
  have er : (⟨k + (r0 - k + r.val), by omega⟩ : Fin 1024) = ⟨m + r.val, hm⟩ := Fin.ext (by show k + (r0 - k + r.val) = m + r.val; omega)
  have ee : (Rect.unit (s := S1x1024x1152) ![0, r0, c0] S1x32x128.size inb).emb (ix3 0 r l) = ix3 0 ⟨m + r.val, hm⟩ n := by
    funext a
    refine Fin.ext ?_
    match a with
    | 0 => rfl
    | 1 => show r0 + 1 * r.val = m + r.val; omega
    | 2 => show c0 + 1 * l.val = n.val; omega
  have ld {e : EltTy} (X : Vec Ideal S1x1024x1152 e) : View.ld X (Rect.unit (s := S1x1024x1152) ![0, r0, c0] S1x32x128.size inb) (ix3 0 r l)
      = X (ix3 0 ⟨m + r.val, hm⟩ n) := congrArg X ee
  have e0 := H.ld vw 0 _ i0 b0 r l
  rw [er] at e0
  rw [gateProd_apply, ld X7, ld X6]
  erw [e0]
  rfl

/-- A store of the third statistic is the block of `blkG` it is stored at: row 2 of block `q`, 128 columns from `c0`. -/
theorem gate_piece {sg : RefSig} {κ : Kind} {sp : Space} (vw : View sg κ sp S2x4x256x128 .f32)
    {L : List (View.Piece (Elt Ideal) S2x4x256x128 .f32)} {sl : Fin 2} {k : ℕ} {hk : k + 256 ≤ 1024} (H : Holds b X3 x h g s u L sl k hk)
    (q c0 : ℕ) (inb : ∀ a, (![0, q, 2, c0] : Fin 4 → ℕ) a + S1x1x1x128.size a ≤ S1x8x3x1152.size a)
    (n0 : ∀ a, (![0, 128 * q, c0] : Fin 3 → ℕ) a + S1x32x128.size a ≤ S1x1024x1152.size a)
    (n1 : ∀ a, (![0, 128 * q + 32, c0] : Fin 3 → ℕ) a + S1x32x128.size a ≤ S1x1024x1152.size a)
    (n2 : ∀ a, (![0, 128 * q + 64, c0] : Fin 3 → ℕ) a + S1x32x128.size a ≤ S1x1024x1152.size a)
    (n3 : ∀ a, (![0, 128 * q + 96, c0] : Fin 3 → ℕ) a + S1x32x128.size a ≤ S1x1024x1152.size a)
    (i0 : ∀ a, (![sl.val, 0, 128 * q - k, 0] : Fin 4 → ℕ) a + S1x1x32x128.size a ≤ S2x4x256x128.size a)
    (i1 : ∀ a, (![sl.val, 0, 128 * q + 32 - k, 0] : Fin 4 → ℕ) a + S1x1x32x128.size a ≤ S2x4x256x128.size a)
    (i2 : ∀ a, (![sl.val, 0, 128 * q + 64 - k, 0] : Fin 4 → ℕ) a + S1x1x32x128.size a ≤ S2x4x256x128.size a)
    (i3 : ∀ a, (![sl.val, 0, 128 * q + 96 - k, 0] : Fin 4 → ℕ) a + S1x1x32x128.size a ≤ S2x4x256x128.size a)
    (hr : k ≤ 128 * q) {w : Vec Ideal S1x1x1x128 .f32}
    (hw : w = gateTile
      (gateProd (View.ld X7 (Rect.unit (s := S1x1024x1152) ![0, 128 * q, c0] S1x32x128.size n0))
        (View.ld X6 (Rect.unit (s := S1x1024x1152) ![0, 128 * q, c0] S1x32x128.size n0))
        (vw.readCov L (Rect.unit (s := S2x4x256x128) ![sl.val, 0, 128 * q - k, 0] S1x1x32x128.size i0).toLoadRect))
      (gateProd (View.ld X7 (Rect.unit (s := S1x1024x1152) ![0, 128 * q + 32, c0] S1x32x128.size n1))
        (View.ld X6 (Rect.unit (s := S1x1024x1152) ![0, 128 * q + 32, c0] S1x32x128.size n1))
        (vw.readCov L (Rect.unit (s := S2x4x256x128) ![sl.val, 0, 128 * q + 32 - k, 0] S1x1x32x128.size i1).toLoadRect))
      (gateProd (View.ld X7 (Rect.unit (s := S1x1024x1152) ![0, 128 * q + 64, c0] S1x32x128.size n2))
        (View.ld X6 (Rect.unit (s := S1x1024x1152) ![0, 128 * q + 64, c0] S1x32x128.size n2))
        (vw.readCov L (Rect.unit (s := S2x4x256x128) ![sl.val, 0, 128 * q + 64 - k, 0] S1x1x32x128.size i2).toLoadRect))
      (gateProd (View.ld X7 (Rect.unit (s := S1x1024x1152) ![0, 128 * q + 96, c0] S1x32x128.size n3))
        (View.ld X6 (Rect.unit (s := S1x1024x1152) ![0, 128 * q + 96, c0] S1x32x128.size n3))
        (vw.readCov L (Rect.unit (s := S2x4x256x128) ![sl.val, 0, 128 * q + 96 - k, 0] S1x1x32x128.size i3).toLoadRect))) :
    ∀ y : S1x1x1x128.Idx, w y = blkG b X3 X6 X7 x h s u ((Rect.unit (s := S1x8x3x1152) ![0, q, 2, c0] S1x1x1x128.size inb).emb y) := by
  have b1 : q + 1 ≤ 8 := inb 1
  have b2 : c0 + 128 ≤ 1152 := inb 3
  subst hw
  intro y
  obtain ⟨l, rfl⟩ : ∃ l : Fin 128, y = ix4 0 0 0 l := ⟨y 3, by
    funext a
    match a with
    | 0 => exact Subsingleton.elim (α := Fin 1) _ _
    | 1 => exact Subsingleton.elim (α := Fin 1) _ _
    | 2 => exact Subsingleton.elim (α := Fin 1) _ _
    | 3 => rfl⟩
  have ee : (Rect.unit (s := S1x8x3x1152) ![0, q, 2, c0] S1x1x1x128.size inb).emb (ix4 0 0 0 l)
      = ix4 0 ⟨q, by omega⟩ 2 ⟨c0 + l.val, by omega⟩ := by
    funext a
    refine Fin.ext ?_
    match a with
    | 0 => rfl
    | 1 => rfl
    | 2 => rfl
    | 3 => show c0 + 1 * l.val = c0 + l.val; omega
  rw [ee]
  show _ = ∑ r : Fin 128, X7 (ix3 0 ⟨128 * q + r.val, by omega⟩ ⟨c0 + l.val, by omega⟩) * X3 (ix2 b ⟨128 * q + r.val, by omega⟩)
      * X6 (ix3 0 ⟨128 * q + r.val, by omega⟩ ⟨c0 + l.val, by omega⟩)
  refine gateTile_apply _ _ _ _ l
    (fun r => X7 (ix3 0 ⟨128 * q + r.val, by omega⟩ ⟨c0 + l.val, by omega⟩) * X3 (ix2 b ⟨128 * q + r.val, by omega⟩)
      * X6 (ix3 0 ⟨128 * q + r.val, by omega⟩ ⟨c0 + l.val, by omega⟩)) (fun r => ?_) (fun r => ?_) (fun r => ?_) (fun r => ?_)
  · exact gate_prod vw H _ c0 n0 i0 hr r l _ _ rfl _ rfl
  · simp only [← Nat.add_assoc]
    exact gate_prod vw H _ c0 n1 i1 (by omega) r l _ _ rfl _ rfl
  · simp only [← Nat.add_assoc]
    exact gate_prod vw H _ c0 n2 i2 (by omega) r l _ _ rfl _ rfl
  · simp only [← Nat.add_assoc]
    exact gate_prod vw H _ c0 n3 i3 (by omega) r l _ _ rfl _ rfl

end

end Cert.KernelIdeal.Gen

end
-- ==== Proof.Slots.lean ====
/-
  The two slots of the coefficients, each of 256 rows, and the first two statistics' stores: what the stores of one
  sub-tile leave, from the values the kernel loads.
-/
module

public import proofs.«01_k».proof.Proof.Tiles

@[expose] public section

set_option maxRecDepth 16384

noncomputable section

namespace Cert.KernelIdeal.Gen

open Idealize.ShloMosaic Cert.Dit

/-- The store of one coefficient of a slot. -/
abbrev slotRect (sl j : ℕ) (inb : ∀ a, (![sl, j, 0, 0] : Fin 4 → ℕ) a + S1x1x256x128.size a ≤ S2x4x256x128.size a) : Rect S2x4x256x128 :=
  Rect.unit (s := S2x4x256x128) ![sl, j, 0, 0] S1x1x256x128.size inb

section
variable {sl j : ℕ} {inb : ∀ a, (![sl, j, 0, 0] : Fin 4 → ℕ) a + S1x1x256x128.size a ≤ S2x4x256x128.size a}
  {w : Vec Ideal S1x1x256x128 .f32} {L : List (View.Piece (Elt Ideal) S2x4x256x128 .f32)}

/-- A read of the coefficient stored last, -/
theorem slot_hit (s' : Fin 2) (j' : Fin 4) (r : Fin 256) (l : Fin 128) (hs : s'.val = sl) (hj : j'.val = j) :
    View.canon (⟨slotRect sl j inb, w⟩ :: L) (ix4 s' j' r l) = w (ix4 0 0 r l) := by
  have e : (slotRect sl j inb).emb (ix4 0 0 r l) = ix4 s' j' r l := by
    funext a
    refine Fin.ext ?_
    match a with
    | 0 => show sl + 1 * 0 = s'.val; omega
    | 1 => show j + 1 * 0 = j'.val; omega
    | 2 => show 0 + 1 * r.val = r.val; omega
    | 3 => show 0 + 1 * l.val = l.val; omega
  rw [← e]
  exact View.canon_cons_emb (slotRect sl j inb) w L (ix4 0 0 r l)

/-- and of another one. -/
theorem slot_skip (s' : Fin 2) (j' : Fin 4) (r : Fin 256) (l : Fin 128) (hn : s'.val ≠ sl ∨ j'.val ≠ j) :
    View.canon (⟨slotRect sl j inb, w⟩ :: L) (ix4 s' j' r l) = View.canon L (ix4 s' j' r l) := by
  refine View.canon_cons_of_not_mem _ _ fun hm => ?_
  have hm := (Rect.mem_set_unit (inb := inb)).mp hm
  have h0 : sl ≤ s'.val ∧ s'.val < sl + 1 := hm 0
  have h1 : j ≤ j'.val ∧ j'.val < j + 1 := hm 1
  omega
end

section
variable {b : Fin 5} {X2 X3 X4 : Vec Ideal S5x1024 .f32} {X5 : Vec Ideal S1x1024x1152 .fp8e4m3} {X6 : Vec Ideal S1x1024x1152 .bf16}
  {X7 X8 : Vec Ideal S1x1024x1152 .fp8e5m2} {X9 : Vec Ideal S5x1152 .f32}
  {x h : Fin 1024 → Fin 1152 → ℝ} {g : Fin 1152 → ℝ} {s u : Fin 1024 → ℝ}

/-- The other slot's stores leave a slot's coefficients as they are. -/
theorem Holds.other {L : List (View.Piece (Elt Ideal) S2x4x256x128 .f32)} {sl : Fin 2} {k : ℕ} {hk : k + 256 ≤ 1024}
    (H : Holds b X3 x h g s u L sl k hk) {sl' : ℕ} (hn : sl.val ≠ sl')
    {n0 n1 n2 n3} {w0 w1 w2 w3 : Vec Ideal S1x1x256x128 .f32} :
    Holds b X3 x h g s u (⟨slotRect sl' 3 n3, w3⟩ :: ⟨slotRect sl' 2 n2, w2⟩ :: ⟨slotRect sl' 1 n1, w1⟩ :: ⟨slotRect sl' 0 n0, w0⟩ :: L) sl k hk := by
  intro j r l
  rw [slot_skip _ _ _ _ (.inl hn), slot_skip _ _ _ _ (.inl hn), slot_skip _ _ _ _ (.inl hn), slot_skip _ _ _ _ (.inl hn), H j r l]

section
variable (R : Reals b X2 X4 X5 X8 X9 x h g s u) {v4 : Vec Ideal S1x1152 .f32} (hv : ∀ d, v4 (ix2 0 d) = X9 (ix2 b d))
  {k : ℕ} {hk : k + 256 ≤ 1024} {o : Fin 2 → ℕ} (ho : o = ![b.val, k])
  {inb : ∀ a, (![0, k, 0] : Fin 3 → ℕ) a + S1x256x1152.size a ≤ S1x1024x1152.size a}
  {inb' : ∀ a, o a + S1x256.size a ≤ S5x1024.size a}
include R hv ho

/-- A sub-tile's stores leave its slot the coefficients of its rows. -/
theorem holds_stats {L : List (View.Piece (Elt Ideal) S2x4x256x128 .f32)} {sl : Fin 2}
    {n0 n1 n2 n3} {w0 w1 w2 w3 : Vec Ideal S1x1x256x128 .f32}
    (e0 : w0 = co0 v4 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X3 (Rect.unit (s := S5x1024) o S1x256.size inb')) (View.ld X4 (Rect.unit (s := S5x1024) o S1x256.size inb')))
    (e1 : w1 = co1 v4 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X3 (Rect.unit (s := S5x1024) o S1x256.size inb')) (View.ld X4 (Rect.unit (s := S5x1024) o S1x256.size inb')))
    (e2 : w2 = co2 v4 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X3 (Rect.unit (s := S5x1024) o S1x256.size inb')) (View.ld X4 (Rect.unit (s := S5x1024) o S1x256.size inb')))
    (e3 : w3 = co3 v4 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X3 (Rect.unit (s := S5x1024) o S1x256.size inb')) (View.ld X4 (Rect.unit (s := S5x1024) o S1x256.size inb'))) :
    Holds b X3 x h g s u (⟨slotRect sl 3 n3, w3⟩ :: ⟨slotRect sl 2 n2, w2⟩ :: ⟨slotRect sl 1 n1, w1⟩ :: ⟨slotRect sl 0 n0, w0⟩ :: L) sl k hk := by
  subst e0 e1 e2 e3
  have hX : ∀ (r : Fin 256) d, View.ld X5 (Rect.unit (s := S1x1024x1152) ![0, k, 0] S1x256x1152.size inb) (ix3 0 r d)
      = ((x ⟨k + r.val, by omega⟩ d : ℝ) : EReal) := fun r d => (ld_rows inb hk r d).trans (R.x _ _)
  have hH : ∀ (r : Fin 256) d, View.ld X8 (Rect.unit (s := S1x1024x1152) ![0, k, 0] S1x256x1152.size inb) (ix3 0 r d)
      = ((h ⟨k + r.val, by omega⟩ d : ℝ) : EReal) := fun r d => (by pointwise : _ = X8 (ix3 0 ⟨k + r.val, by omega⟩ d)).trans (R.h _ _)
  have hg : ∀ d, v4 (ix2 0 d) = ((g d : ℝ) : EReal) := fun d => (hv d).trans (R.g d)
  have hs' : ∀ r : Fin 256, View.ld X2 (Rect.unit (s := S5x1024) o S1x256.size inb') (ix2 0 r)
      = ((s ⟨k + r.val, by omega⟩ : ℝ) : EReal) := fun r => (ld_scale ho inb' hk r).trans (R.s _)
  have hu : ∀ r : Fin 256, View.ld X4 (Rect.unit (s := S5x1024) o S1x256.size inb') (ix2 0 r)
      = ((u ⟨k + r.val, by omega⟩ : ℝ) : EReal) := fun r => (ld_scale ho inb' hk r).trans (R.u _)
  intro j r l
  match j with
  | 3 => rw [slot_hit _ _ _ _ rfl (by rfl), co3_eq hX hH hg hs' hu]; rfl
  | 2 => rw [slot_skip _ _ _ _ (.inr (by decide)), slot_hit _ _ _ _ rfl (by rfl), co2_eq hX hH hg hs' hu]; rfl
  | 1 =>
    rw [slot_skip _ _ _ _ (.inr (by decide)), slot_skip _ _ _ _ (.inr (by decide)), slot_hit _ _ _ _ rfl (by rfl), co1_eq hX hs' hu]; rfl
  | 0 =>
    rw [slot_skip _ _ _ _ (.inr (by decide)), slot_skip _ _ _ _ (.inr (by decide)), slot_skip _ _ _ _ (.inr (by decide)),
      slot_hit _ _ _ _ rfl (by rfl), co0_eq, ld_scale ho inb' hk r]; rfl

omit hv in
/-- A sub-tile's stores of the first two statistics are blocks of `blkG`: of its first 128 rows, -/
theorem rows_piece0 (q : ℕ) (hq : 128 * q = k) (nb : ∀ a, (![0, q, 0, 0] : Fin 4 → ℕ) a + S1x1x2x1152.size a ≤ S1x8x3x1152.size a)
    {w : Vec Ideal S1x1x2x1152 .f32}
    {P : Vec Ideal S1x256x1152 .bf16}
    (hP : P = k0_pay10 (View.ld X5 (Rect.unit (s := S1x1024x1152) ![0, k, 0] S1x256x1152.size inb))
      (View.ld X8 (Rect.unit (s := S1x1024x1152) ![0, k, 0] S1x256x1152.size inb)))
    (e' : w = k0_pay39 (stRh (View.ld X5 (Rect.unit (s := S1x1024x1152) ![0, k, 0] S1x256x1152.size inb))
        (View.ld X8 (Rect.unit (s := S1x1024x1152) ![0, k, 0] S1x256x1152.size inb)) (View.ld X2 (Rect.unit (s := S5x1024) o S1x256.size inb')) (View.ld X4 (Rect.unit (s := S5x1024) o S1x256.size inb')))
      (stLp (View.ld X5 (Rect.unit (s := S1x1024x1152) ![0, k, 0] S1x256x1152.size inb)) (View.ld X2 (Rect.unit (s := S5x1024) o S1x256.size inb')) (View.ld X4 (Rect.unit (s := S5x1024) o S1x256.size inb'))) P) :
    ∀ y : S1x1x2x1152.Idx, w y = blkG b X3 X6 X7 x h s u ((Rect.unit (s := S1x8x3x1152) ![0, q, 0, 0] S1x1x2x1152.size nb).emb y) := by
  have e : w = blk0 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X4 (Rect.unit (s := S5x1024) o S1x256.size inb')) :=
    e'.trans (by rw [hP]; rfl)
  subst e
  have b1 : q + 1 ≤ 8 := nb 1
  have b2 : k + 256 ≤ 1024 := inb 1
  have hX : ∀ (r : Fin 256) d, View.ld X5 (Rect.unit (s := S1x1024x1152) ![0, k, 0] S1x256x1152.size inb) (ix3 0 r d)
      = ((x ⟨k + r.val, by omega⟩ d : ℝ) : EReal) := fun r d => (ld_rows inb b2 r d).trans (R.x _ _)
  have hH : ∀ (r : Fin 256) d, View.ld X8 (Rect.unit (s := S1x1024x1152) ![0, k, 0] S1x256x1152.size inb) (ix3 0 r d)
      = ((h ⟨k + r.val, by omega⟩ d : ℝ) : EReal) := fun r d => (by pointwise : _ = X8 (ix3 0 ⟨k + r.val, by omega⟩ d)).trans (R.h _ _)
  have hs' : ∀ r : Fin 256, View.ld X2 (Rect.unit (s := S5x1024) o S1x256.size inb') (ix2 0 r)
      = ((s ⟨k + r.val, by omega⟩ : ℝ) : EReal) := fun r => (ld_scale ho inb' b2 r).trans (R.s _)
  have hu : ∀ r : Fin 256, View.ld X4 (Rect.unit (s := S5x1024) o S1x256.size inb') (ix2 0 r)
      = ((u ⟨k + r.val, by omega⟩ : ℝ) : EReal) := fun r => (ld_scale ho inb' b2 r).trans (R.u _)
  intro y
  obtain ⟨j, l, rfl⟩ : ∃ (j : Fin 2) (l : Fin 1152), y = ix4 0 0 j l := ⟨y 2, y 3, by
    funext a
    match a with
    | 0 => exact Subsingleton.elim (α := Fin 1) _ _
    | 1 => exact Subsingleton.elim (α := Fin 1) _ _
    | 2 => rfl
    | 3 => rfl⟩
  have ee : (Rect.unit (s := S1x8x3x1152) ![0, q, 0, 0] S1x1x2x1152.size nb).emb (ix4 0 0 j l)
      = ix4 0 ⟨q, by omega⟩ ⟨j.val, by omega⟩ l := by
    funext a
    refine Fin.ext ?_
    match a with
    | 0 => rfl
    | 1 => rfl
    | 2 => show 0 + 1 * j.val = j.val; omega
    | 3 => show 0 + 1 * l.val = l.val; omega
  have er (r : Fin 128) : (⟨k + r.val, by omega⟩ : Fin 1024) = rowOf ⟨q, by omega⟩ r := Fin.ext (by show k + r.val = 128 * q + r.val; omega)
  rw [ee]
  match j with
  | 0 =>
    refine (blk0_shift hX hH hs' hu l).trans ?_
    simp only [er]; rfl
  | 1 =>
    refine (blk0_scale hX hH hs' hu l).trans ?_
    simp only [er]; rfl

omit hv in
/-- and of its last 128 rows. -/
theorem rows_piece1 (q : ℕ) (hq : 128 * q = k + 128) (nb : ∀ a, (![0, q, 0, 0] : Fin 4 → ℕ) a + S1x1x2x1152.size a ≤ S1x8x3x1152.size a)
    {w : Vec Ideal S1x1x2x1152 .f32}
    {P : Vec Ideal S1x256x1152 .bf16}
    (hP : P = k0_pay10 (View.ld X5 (Rect.unit (s := S1x1024x1152) ![0, k, 0] S1x256x1152.size inb))
      (View.ld X8 (Rect.unit (s := S1x1024x1152) ![0, k, 0] S1x256x1152.size inb)))
    (e' : w = k0_pay40 (stRh (View.ld X5 (Rect.unit (s := S1x1024x1152) ![0, k, 0] S1x256x1152.size inb))
        (View.ld X8 (Rect.unit (s := S1x1024x1152) ![0, k, 0] S1x256x1152.size inb)) (View.ld X2 (Rect.unit (s := S5x1024) o S1x256.size inb')) (View.ld X4 (Rect.unit (s := S5x1024) o S1x256.size inb')))
      (stLp (View.ld X5 (Rect.unit (s := S1x1024x1152) ![0, k, 0] S1x256x1152.size inb)) (View.ld X2 (Rect.unit (s := S5x1024) o S1x256.size inb')) (View.ld X4 (Rect.unit (s := S5x1024) o S1x256.size inb'))) P) :
    ∀ y : S1x1x2x1152.Idx, w y = blkG b X3 X6 X7 x h s u ((Rect.unit (s := S1x8x3x1152) ![0, q, 0, 0] S1x1x2x1152.size nb).emb y) := by
  have e : w = blk1 (View.ld X5 (Rect.unit (s := S1x1024x1152) ![0, k, 0] S1x256x1152.size inb))
      (View.ld X8 (Rect.unit (s := S1x1024x1152) ![0, k, 0] S1x256x1152.size inb)) (View.ld X2 (Rect.unit (s := S5x1024) o S1x256.size inb'))
      (View.ld X4 (Rect.unit (s := S5x1024) o S1x256.size inb')) :=
    e'.trans (by rw [hP]; rfl)
  subst e
  have b1 : q + 1 ≤ 8 := nb 1
  have b2 : k + 256 ≤ 1024 := inb 1
  have hX : ∀ (r : Fin 256) d, View.ld X5 (Rect.unit (s := S1x1024x1152) ![0, k, 0] S1x256x1152.size inb) (ix3 0 r d)
      = ((x ⟨k + r.val, by omega⟩ d : ℝ) : EReal) := fun r d => (ld_rows inb b2 r d).trans (R.x _ _)
  have hH : ∀ (r : Fin 256) d, View.ld X8 (Rect.unit (s := S1x1024x1152) ![0, k, 0] S1x256x1152.size inb) (ix3 0 r d)
      = ((h ⟨k + r.val, by omega⟩ d : ℝ) : EReal) := fun r d => (by pointwise : _ = X8 (ix3 0 ⟨k + r.val, by omega⟩ d)).trans (R.h _ _)
  have hs' : ∀ r : Fin 256, View.ld X2 (Rect.unit (s := S5x1024) o S1x256.size inb') (ix2 0 r)
      = ((s ⟨k + r.val, by omega⟩ : ℝ) : EReal) := fun r => (ld_scale ho inb' b2 r).trans (R.s _)
  have hu : ∀ r : Fin 256, View.ld X4 (Rect.unit (s := S5x1024) o S1x256.size inb') (ix2 0 r)
      = ((u ⟨k + r.val, by omega⟩ : ℝ) : EReal) := fun r => (ld_scale ho inb' b2 r).trans (R.u _)
  intro y
  obtain ⟨j, l, rfl⟩ : ∃ (j : Fin 2) (l : Fin 1152), y = ix4 0 0 j l := ⟨y 2, y 3, by
    funext a
    match a with
    | 0 => exact Subsingleton.elim (α := Fin 1) _ _
    | 1 => exact Subsingleton.elim (α := Fin 1) _ _
    | 2 => rfl
    | 3 => rfl⟩
  have ee : (Rect.unit (s := S1x8x3x1152) ![0, q, 0, 0] S1x1x2x1152.size nb).emb (ix4 0 0 j l)
      = ix4 0 ⟨q, by omega⟩ ⟨j.val, by omega⟩ l := by
    funext a
    refine Fin.ext ?_
    match a with
    | 0 => rfl
    | 1 => rfl
    | 2 => show 0 + 1 * j.val = j.val; omega
    | 3 => show 0 + 1 * l.val = l.val; omega
  have er (r : Fin 128) : (⟨k + (128 + r.val), by omega⟩ : Fin 1024) = rowOf ⟨q, by omega⟩ r :=
    Fin.ext (by show k + (128 + r.val) = 128 * q + r.val; omega)
  rw [ee]
  match j with
  | 0 =>
    refine (blk1_shift hX hH hs' hu l).trans ?_
    simp only [er]; rfl
  | 1 =>
    refine (blk1_scale hX hH hs' hu l).trans ?_
    simp only [er]; rfl

end
end

end Cert.KernelIdeal.Gen

end
-- ==== Proof.Pieces.lean ====
/-
  The stores of one grid point: every store into the input gradient and into the statistics is a block of the value the
  point leaves there.
-/
module

public import proofs.«01_k».proof.Proof.Body
public import proofs.«01_k».proof.Proof.Slots
public import Idealize.ShloMosaic.Lib.Ring

@[expose] public section

set_option maxRecDepth 16384

noncomputable section

namespace Cert.KernelIdeal.Gen

open Idealize.ShloMosaic Idealize.ShloMosaic.TcCoe Cert.Dit

section
variable (c : Dev nD) (i : grid0.Coords) {arg2 : Memref sig .tc .vmem S5x1024 .f32} {arg3 : Memref sig .tc .vmem S5x1024 .f32} {arg4 : Memref sig .tc .vmem S5x1024 .f32} {arg5 : Memref sig .tc .vmem S1x1024x1152 .fp8e4m3} {arg6 : Memref sig .tc .vmem S1x1024x1152 .bf16} {arg7 : Memref sig .tc .vmem S1x1024x1152 .fp8e5m2} {arg8 : Memref sig .tc .vmem S1x1024x1152 .fp8e5m2} {arg9 : Memref sig .tc .vmem S5x1152 .f32} {arg14 : Memref sig .tc .vmem S2x4x256x128 .f32}
  {f2 : Bf (F := Ideal) c arg2} {f3 : Bf (F := Ideal) c arg3} {f4 : Bf (F := Ideal) c arg4} {f5 : Bf (F := Ideal) c arg5} {f6 : Bf (F := Ideal) c arg6} {f7 : Bf (F := Ideal) c arg7} {f8 : Bf (F := Ideal) c arg8} {f9 : Bf (F := Ideal) c arg9}
  {x h : Fin 1024 → Fin 1152 → ℝ} {g : Fin 1152 → ℝ} {s u : Fin 1024 → ℝ}
  (R : Reals (i 1) (arg2.view.read (Elt Ideal) f2) (arg4.view.read (Elt Ideal) f4) (arg5.view.read (Elt Ideal) f5)
    (arg8.view.read (Elt Ideal) f8) (arg9.view.read (Elt Ideal) f9) x h g s u)
include R

/-- The row of the modulation the point loads. -/
theorem mod_row (d : Fin 1152) : View.readAt (Elt Ideal) arg9.view (Rect.unit (s := S5x1152) (k0_off2 i) S1x1152.size (k0_off2_inb i)).toLoadRect f9 (ix2 0 d)
    = arg9.view.read (Elt Ideal) f9 (ix2 (i 1) d) := ld_mod (k0_off2_eq i) _ d

/-- The coefficients the stores of the input gradient read: of the first sub-tile, -/
theorem holds0 : Holds (i 1) (arg3.view.read (Elt Ideal) f3) x h g s u
    (bodyRun.sl.H14_8 (F := Ideal) c i arg2 arg3 arg4 arg5 arg8 arg9 f2 f3 f4 f5 f8 f9) 0 0 (by decide) := by
  refine Holds.other (holds_stats (sl := 0) R (mod_row c i R) (k0_off3_eq i) rfl rfl rfl rfl) (sl' := 1) ?_
  decide

/-- of the second, -/
theorem holds1 : Holds (i 1) (arg3.view.read (Elt Ideal) f3) x h g s u
    (bodyRun.sl.H14_12 (F := Ideal) c i arg2 arg3 arg4 arg5 arg8 arg9 f2 f3 f4 f5 f8 f9) 1 256 (by decide) := by
  refine Holds.other (holds_stats (sl := 1) R (mod_row c i R) (k0_off4_eq i) rfl rfl rfl rfl) (sl' := 0) ?_
  decide

/-- of the third, -/
theorem holds2 : Holds (i 1) (arg3.view.read (Elt Ideal) f3) x h g s u
    (bodyRun.sl.H14_16 (F := Ideal) c i arg2 arg3 arg4 arg5 arg8 arg9 f2 f3 f4 f5 f8 f9) 0 512 (by decide) := by
  refine Holds.other (holds_stats (sl := 0) R (mod_row c i R) (k0_off5_eq i) rfl rfl rfl rfl) (sl' := 1) ?_
  decide

/-- and of the fourth. -/
theorem holds3 : Holds (i 1) (arg3.view.read (Elt Ideal) f3) x h g s u
    (bodyRun.sl.H14_16 (F := Ideal) c i arg2 arg3 arg4 arg5 arg8 arg9 f2 f3 f4 f5 f8 f9) 1 768 (by decide) :=
  holds_stats (sl := 1) R (mod_row c i R) (k0_off6_eq i) rfl rfl rfl rfl

/-- Every store of the input gradient is the block of `dxG` it covers. -/
theorem dx_pieces : View.PiecesOf (dxG (i 1) (arg3.view.read (Elt Ideal) f3) (arg7.view.read (Elt Ideal) f7) x h g s u)
    (bodyRun.sl.H10_288 (F := Ideal) c i arg2 arg3 arg4 arg5 arg7 arg8 arg9 arg14 f2 f3 f4 f5 f7 f8 f9) := by
  have v := mod_row c i R
  iterate 72 (refine ⟨dx_piece R v arg14.view (holds3 c i R) _ _ _ _ _ _ _ _ (by decide) rfl, ?_⟩)
  iterate 72 (refine ⟨dx_piece R v arg14.view (holds2 c i R) _ _ _ _ _ _ _ _ (by decide) rfl, ?_⟩)
  iterate 72 (refine ⟨dx_piece R v arg14.view (holds1 c i R) _ _ _ _ _ _ _ _ (by decide) rfl, ?_⟩)
  iterate 72 (refine ⟨dx_piece R v arg14.view (holds0 c i R) _ _ _ _ _ _ _ _ (by decide) rfl, ?_⟩)
  trivial

variable {arg13 : Memref sig .tc .vmem S2x256x1152 .bf16}

omit R in
/-- The products a sub-tile's statistics are formed with are those it has just stored: of the first sub-tile, -/
theorem prod0 : arg13.view.readCov (bodyRun.sl.H13_1 (F := Ideal) c arg5 arg8 f5 f8)
      (Rect.unit (s := S2x256x1152) ![0, 0, 0] S1x256x1152.size inb_S2x256x1152_S1x256x1152_0_0_0).toLoadRect
    = k0_pay10 (View.ld (arg5.view.read (Elt Ideal) f5) (Rect.unit (s := S1x1024x1152) ![0, 0, 0] S1x256x1152.size inb_S1x1024x1152_S1x256x1152_0_0_0))
      (View.ld (arg8.view.read (Elt Ideal) f8) (Rect.unit (s := S1x1024x1152) ![0, 0, 0] S1x256x1152.size inb_S1x1024x1152_S1x256x1152_0_0_0)) :=
  View.readCov_cons_toLoadRect _ _ _ _

omit R in
/-- of the second, -/
theorem prod1 : arg13.view.readCov (bodyRun.sl.H13_2 (F := Ideal) c arg5 arg8 f5 f8)
      (Rect.unit (s := S2x256x1152) ![1, 0, 0] S1x256x1152.size inb_S2x256x1152_S1x256x1152_1_0_0).toLoadRect
    = k0_pay10 (View.ld (arg5.view.read (Elt Ideal) f5) (Rect.unit (s := S1x1024x1152) ![0, 256, 0] S1x256x1152.size inb_S1x1024x1152_S1x256x1152_0_256_0))
      (View.ld (arg8.view.read (Elt Ideal) f8) (Rect.unit (s := S1x1024x1152) ![0, 256, 0] S1x256x1152.size inb_S1x1024x1152_S1x256x1152_0_256_0)) :=
  View.readCov_cons_toLoadRect _ _ _ _

omit R in
/-- of the third, -/
theorem prod2 : arg13.view.readCov (bodyRun.sl.H13_3 (F := Ideal) c arg5 arg8 f5 f8)
      (Rect.unit (s := S2x256x1152) ![0, 0, 0] S1x256x1152.size inb_S2x256x1152_S1x256x1152_0_0_0).toLoadRect
    = k0_pay10 (View.ld (arg5.view.read (Elt Ideal) f5) (Rect.unit (s := S1x1024x1152) ![0, 512, 0] S1x256x1152.size inb_S1x1024x1152_S1x256x1152_0_512_0))
      (View.ld (arg8.view.read (Elt Ideal) f8) (Rect.unit (s := S1x1024x1152) ![0, 512, 0] S1x256x1152.size inb_S1x1024x1152_S1x256x1152_0_512_0)) :=
  View.readCov_cons_toLoadRect _ _ _ _

omit R in
/-- and of the fourth. -/
theorem prod3 : arg13.view.readCov (bodyRun.sl.H13_4 (F := Ideal) c arg5 arg8 f5 f8)
      (Rect.unit (s := S2x256x1152) ![1, 0, 0] S1x256x1152.size inb_S2x256x1152_S1x256x1152_1_0_0).toLoadRect
    = k0_pay10 (View.ld (arg5.view.read (Elt Ideal) f5) (Rect.unit (s := S1x1024x1152) ![0, 768, 0] S1x256x1152.size inb_S1x1024x1152_S1x256x1152_0_768_0))
      (View.ld (arg8.view.read (Elt Ideal) f8) (Rect.unit (s := S1x1024x1152) ![0, 768, 0] S1x256x1152.size inb_S1x1024x1152_S1x256x1152_0_768_0)) :=
  View.readCov_cons_toLoadRect _ _ _ _

/-- The store of block 0's first two statistics. -/
theorem rows0 (nb : ∀ a, (![0, 0, 0, 0] : Fin 4 → ℕ) a + S1x1x2x1152.size a ≤ S1x8x3x1152.size a) :
    ∀ y, bodyRun.sl.v239 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 0, 0, 0] S1x1x2x1152.size nb).emb y) :=
  rows_piece0 R (k0_off3_eq i) 0 rfl _ (prod0 c) rfl

/-- The store of block 1's first two statistics. -/
theorem rows1 (nb : ∀ a, (![0, 1, 0, 0] : Fin 4 → ℕ) a + S1x1x2x1152.size a ≤ S1x8x3x1152.size a) :
    ∀ y, bodyRun.sl.v243 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 1, 0, 0] S1x1x2x1152.size nb).emb y) :=
  rows_piece1 R (k0_off3_eq i) 1 rfl _ (prod0 c) rfl

/-- The store of block 2's first two statistics. -/
theorem rows2 (nb : ∀ a, (![0, 2, 0, 0] : Fin 4 → ℕ) a + S1x1x2x1152.size a ≤ S1x8x3x1152.size a) :
    ∀ y, bodyRun.sl.v461 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 2, 0, 0] S1x1x2x1152.size nb).emb y) :=
  rows_piece0 R (k0_off4_eq i) 2 rfl _ (prod1 c) rfl

/-- The store of block 3's first two statistics. -/
theorem rows3 (nb : ∀ a, (![0, 3, 0, 0] : Fin 4 → ℕ) a + S1x1x2x1152.size a ≤ S1x8x3x1152.size a) :
    ∀ y, bodyRun.sl.v465 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 3, 0, 0] S1x1x2x1152.size nb).emb y) :=
  rows_piece1 R (k0_off4_eq i) 3 rfl _ (prod1 c) rfl

/-- The store of block 4's first two statistics. -/
theorem rows4 (nb : ∀ a, (![0, 4, 0, 0] : Fin 4 → ℕ) a + S1x1x2x1152.size a ≤ S1x8x3x1152.size a) :
    ∀ y, bodyRun.sl.v3716 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 4, 0, 0] S1x1x2x1152.size nb).emb y) :=
  rows_piece0 R (k0_off5_eq i) 4 rfl _ (prod2 c) rfl

/-- The store of block 5's first two statistics. -/
theorem rows5 (nb : ∀ a, (![0, 5, 0, 0] : Fin 4 → ℕ) a + S1x1x2x1152.size a ≤ S1x8x3x1152.size a) :
    ∀ y, bodyRun.sl.v3720 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 5, 0, 0] S1x1x2x1152.size nb).emb y) :=
  rows_piece1 R (k0_off5_eq i) 5 rfl _ (prod2 c) rfl

/-- The store of block 6's first two statistics. -/
theorem rows6 (nb : ∀ a, (![0, 6, 0, 0] : Fin 4 → ℕ) a + S1x1x2x1152.size a ≤ S1x8x3x1152.size a) :
    ∀ y, bodyRun.sl.v6971 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 6, 0, 0] S1x1x2x1152.size nb).emb y) :=
  rows_piece0 R (k0_off6_eq i) 6 rfl _ (prod3 c) rfl

/-- The store of block 7's first two statistics. -/
theorem rows7 (nb : ∀ a, (![0, 7, 0, 0] : Fin 4 → ℕ) a + S1x1x2x1152.size a ≤ S1x8x3x1152.size a) :
    ∀ y, bodyRun.sl.v6975 (F := Ideal) c i arg2 arg4 arg5 arg8 arg13 f2 f4 f5 f8 y = blkG (i 1) (arg3.view.read (Elt Ideal) f3) (arg6.view.read (Elt Ideal) f6)
      (arg7.view.read (Elt Ideal) f7) x h s u ((Rect.unit (s := S1x8x3x1152) ![0, 7, 0, 0] S1x1x2x1152.size nb).emb y) :=
  rows_piece1 R (k0_off6_eq i) 7 rfl _ (prod3 c) rfl

set_option maxHeartbeats 1000000 in
/-- Every store of the statistics is the block of `blkG` it covers. -/
theorem blk_pieces : View.PiecesOf (blkG (i 1) (arg3.view.read (Elt Ideal) f3) (arg6.view.read (Elt Ideal) f6) (arg7.view.read (Elt Ideal) f7) x h s u)
    (bodyRun.sl.H12_80 (F := Ideal) c i arg2 arg3 arg4 arg5 arg6 arg7 arg8 arg9 arg13 arg14 f2 f3 f4 f5 f6 f7 f8 f9) := by
  iterate 18 (refine ⟨gate_piece arg14.view (holds3 c i R) _ _ (by decide) _ _ _ _ _ _ _ _ (by decide) rfl, ?_⟩)
  iterate 18 (refine ⟨gate_piece arg14.view (holds2 c i R) _ _ (by decide) _ _ _ _ _ _ _ _ (by decide) rfl, ?_⟩)
  refine ⟨rows7 c i R (by decide), ?_⟩
  refine ⟨rows6 c i R (by decide), ?_⟩
  iterate 18 (refine ⟨gate_piece arg14.view (holds1 c i R) _ _ (by decide) _ _ _ _ _ _ _ _ (by decide) rfl, ?_⟩)
  refine ⟨rows5 c i R (by decide), ?_⟩
  refine ⟨rows4 c i R (by decide), ?_⟩
  iterate 18 (refine ⟨gate_piece arg14.view (holds0 c i R) _ _ (by decide) _ _ _ _ _ _ _ _ (by decide) rfl, ?_⟩)
  refine ⟨rows3 c i R (by decide), ?_⟩
  refine ⟨rows2 c i R (by decide), ?_⟩
  refine ⟨rows1 c i R (by decide), ?_⟩
  refine ⟨rows0 c i R (by decide), ?_⟩
  trivial

end
end Cert.KernelIdeal.Gen
end
-- ==== Proof.Rows.lean ====
/-
  Reading the row sums a grid point keeps across the grid: what its last store adds, and where it stores.
-/
module

public import proofs.«01_k».proof.Proof.Tiles
public import Idealize.ShloMosaic.Lib.Pipeline.FrameBody
public import Idealize.ShloMosaic.Lib.WritesUnit

@[expose] public section

set_option maxRecDepth 16384

noncomputable section

namespace Cert.KernelIdeal.Gen

open Idealize.ShloMosaic Idealize.ShloMosaic.TcCoe Cert.Dit

/-- The last store of a grid point adds the eight blocks' statistics to the row it loads. -/
theorem pay_tot (r0 r1 r2 r3 r4 r5 r6 r7 : Vec Ideal S1x1x3x1152 .f32) (v : Vec Ideal S1x3x1152 .f32) (j : Fin 3) (d : Fin 1152) :
    k0_pay1 (F := Ideal) (k0_pay2411 (addf (shapeCast S3x1152 r0 shapeCasts_S1x1x3x1152_S3x1152) (shapeCast S3x1152 r1 shapeCasts_S1x1x3x1152_S3x1152)) r2 r3 r4 r5 r6)
        (k0_pay2412 r7) v (ix3 0 j d)
      = v (ix3 0 j d) + ((((((((r0 (ix4 0 0 j d) + r1 (ix4 0 0 j d)) + r2 (ix4 0 0 j d)) + r3 (ix4 0 0 j d)) + r4 (ix4 0 0 j d)) + r5 (ix4 0 0 j d)) + r6 (ix4 0 0 j d)) + r7 (ix4 0 0 j d))) := by
  pointwise [k0_pay1, k0_pay2411, k0_pay2412]

/-- The row a grid point starts from at the first step is zero. -/
theorem pay_zero (x : S1x3x1152.Idx) : k0_pay2 (F := Ideal) x = 0 := by
  pointwise [k0_pay2]

/-- A load of block `k`'s statistics reads them off the stores. -/
theorem ld_blk {sg : RefSig} {κ : Kind} {sp : Space} (vw : View sg κ sp S1x8x3x1152 .f32) {L : List (View.Piece (Elt Ideal) S1x8x3x1152 .f32)}
    {G : Vec Ideal S1x8x3x1152 .f32} (hL : View.canon L = G) (k : Fin 8) {n : ℕ} (hn : n = k.val) (inb : ∀ a, (![0, n, 0, 0] : Fin 4 → ℕ) a + S1x1x3x1152.size a ≤ S1x8x3x1152.size a)
    (j : Fin 3) (d : Fin 1152) :
    vw.readCov L (Rect.unit (s := S1x8x3x1152) ![0, n, 0, 0] S1x1x3x1152.size inb).toLoadRect (ix4 0 0 j d) = G (ix4 0 k j d) := by
  subst hn
  rw [View.readCov_eq_canon', hL]
  pointwise

/-- A load of a row of the array kept across the grid. -/
theorem ld_row {X : Vec Ideal S5x3x1152 .f32} {b : Fin 5} {off : Fin 3 → ℕ} (ho : off = ![b.val, 0, 0])
    (inb : ∀ a, off a + (![1, 3, 1152] : Fin 3 → ℕ) a ≤ S5x3x1152.size a) (j : Fin 3) (d : Fin 1152) :
    View.ld X (Rect.unit (s := S5x3x1152) off ![1, 3, 1152] inb) (ix3 (0 : Fin 1) j d) = X (ix3 b j d) := by
  subst ho; pointwise

section
variable {sg : RefSig} {κ : Kind} {sp : Space} (vw : View sg κ sp S5x3x1152 .f32) {b : Fin 5} {off : Fin 3 → ℕ} (ho : off = ![b.val, 0, 0])
  (inb : ∀ a, off a + (![1, 3, 1152] : Fin 3 → ℕ) a ≤ S5x3x1152.size a) (w : (Rect.unit (s := S5x3x1152) off ![1, 3, 1152] inb).shape.Idx → Elt Ideal .f32)
include ho

/-- A store of row `b` reads back at that row, -/
theorem row_hit (f) (j : Fin 3) (d : Fin 1152) :
    vw.read (Elt Ideal) (vw.writes (Elt Ideal) f [⟨Rect.unit (s := S5x3x1152) off ![1, 3, 1152] inb, w⟩]) (ix3 b j d) = w (ix3 (0 : Fin 1) j d) :=
  View.read_writes_cons_unit_of_mem vw f inb w [] (ix3 b j d) (ix3 (0 : Fin 1) j d) ho fun a => by
    fin_cases a <;> simp [ix3]

/-- and leaves the other rows. -/
theorem row_skip (f) {b' : Fin 5} (hb : b' ≠ b) (j : Fin 3) (d : Fin 1152) :
    vw.read (Elt Ideal) (vw.writes (Elt Ideal) f [⟨Rect.unit (s := S5x3x1152) off ![1, 3, 1152] inb, w⟩]) (ix3 b' j d) = vw.read (Elt Ideal) f (ix3 b' j d) := by
  rw [View.read_writes_cons_unit_of_not_mem vw f inb w [] (ix3 b' j d) ho 0 (by
    have : b'.val ≠ b.val := fun e => hb (Fin.ext e)
    change b'.val < b.val ∨ b.val + 1 ≤ b'.val
    omega), View.writes_nil]

end
end Cert.KernelIdeal.Gen
end
-- ==== Proof.Point.lean ====
/-
  What one grid point leaves in its three output buffers.
-/
module

public import proofs.«01_k».proof.Proof.Pieces
public import proofs.«01_k».proof.Proof.Rows
public import Idealize.ShloMosaic.Lib.Pipeline.ReadBack

@[expose] public section

set_option maxRecDepth 16384

noncomputable section

namespace Cert.KernelIdeal.Gen

open Idealize.ShloMosaic Idealize.ShloMosaic.TcCoe Cert.Dit

section
variable (c : Dev nD) (i : grid0.Coords) {arg2 : Memref sig .tc .vmem S5x1024 .f32} {arg3 : Memref sig .tc .vmem S5x1024 .f32} {arg4 : Memref sig .tc .vmem S5x1024 .f32} {arg5 : Memref sig .tc .vmem S1x1024x1152 .fp8e4m3} {arg6 : Memref sig .tc .vmem S1x1024x1152 .bf16} {arg7 : Memref sig .tc .vmem S1x1024x1152 .fp8e5m2} {arg8 : Memref sig .tc .vmem S1x1024x1152 .fp8e5m2} {arg9 : Memref sig .tc .vmem S5x1152 .f32}
  {arg10 : Memref sig .tc .vmem S1x1024x1152 .bf16} {arg11 : Memref sig .tc .vmem S5x3x1152 .f32} {arg12 : Memref sig .tc .vmem S1x8x3x1152 .f32} {arg13 : Memref sig .tc .vmem S2x256x1152 .bf16} {arg14 : Memref sig .tc .vmem S2x4x256x128 .f32}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)
  (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f11 : Bf (F := Ideal) c arg11)
  {x h : Fin 1024 → Fin 1152 → ℝ} {g : Fin 1152 → ℝ} {s u : Fin 1024 → ℝ}
  (R : Reals (i 1) (arg2.view.read (Elt Ideal) f2) (arg4.view.read (Elt Ideal) f4) (arg5.view.read (Elt Ideal) f5)
    (arg8.view.read (Elt Ideal) f8) (arg9.view.read (Elt Ideal) f9) x h g s u)
include R

omit R in
/-- The three blocks a grid point leaves, as stores: the input gradient, -/
theorem left_dx : (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.1 = arg10.view.writes (Elt Ideal) arg10.view.junk
    (bodyRun.sl.H10_288 (F := Ideal) c i arg2 arg3 arg4 arg5 arg7 arg8 arg9 arg14 f2 f3 f4 f5 f7 f8 f9) := by
  unfold bodyRun; dsimp only

omit R in
/-- the statistics, -/
theorem left_blk : (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.2.2 = arg12.view.writes (Elt Ideal) arg12.view.junk
    (bodyRun.sl.H12_80 (F := Ideal) c i arg2 arg3 arg4 arg5 arg6 arg7 arg8 arg9 arg13 arg14 f2 f3 f4 f5 f6 f7 f8 f9) := by
  unfold bodyRun; dsimp only

omit R in
/-- and the rows of sums. -/
theorem left_dmod : (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.2.1 = arg11.view.writes (Elt Ideal)
    (if hc : k0_cond1 i = 1#1 then
      arg11.view.writes (Elt Ideal) f11 [⟨Rect.unit (s := S5x3x1152) (k0_off1 i) S1x3x1152.size (k0_off1_inb i hc), bodyRun.sl.v13077 (F := Ideal)⟩]
    else f11)
    [⟨Rect.unit (s := S5x3x1152) (k0_off7 i) ![1, 3, 1152] (k0_off7_inb i),
        k0_pay1 (F := Ideal) (bodyRun.sl.r_56 c i arg2 arg3 arg4 arg5 arg6 arg7 arg8 arg9 arg12 arg13 arg14 f2 f3 f4 f5 f6 f7 f8 f9)
          (bodyRun.sl.r_57 c i arg2 arg3 arg4 arg5 arg6 arg7 arg8 arg9 arg12 arg13 arg14 f2 f3 f4 f5 f6 f7 f8 f9) (bodyRun.sl.v13066 c i arg11 f11)⟩] := by
  unfold bodyRun; dsimp only

/-- The stores of the statistics, taken together, are `blkG`. -/
theorem blk_canon : View.canon (bodyRun.sl.H12_80 (F := Ideal) c i arg2 arg3 arg4 arg5 arg6 arg7 arg8 arg9 arg13 arg14 f2 f3 f4 f5 f6 f7 f8 f9)
    = blkG (i 1) (arg3.view.read (Elt Ideal) f3) (arg6.view.read (Elt Ideal) f6) (arg7.view.read (Elt Ideal) f7) x h s u :=
  funext fun y => View.canon_apply_of_pieces _ _ (blk_pieces c i R).mem y (View.cover_of_tiledBy _ ![1, 1, 1, 128] (by sl_kernel_rfl) y)

/-- A grid point leaves `blkG` in the block of the statistics, -/
theorem out_blk : arg12.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.2.2
    = blkG (i 1) (arg3.view.read (Elt Ideal) f3) (arg6.view.read (Elt Ideal) f6) (arg7.view.read (Elt Ideal) f7) x h s u :=
  (congrArg (arg12.view.read (Elt Ideal)) (left_blk ..)).trans ((View.read_writes_junk_eq_canon arg12.view _).trans (blk_canon c i f2 f3 f4 f5 f6 f7 f8 f9 R))

/-- and `dxG` in the block of the input gradient. -/
theorem out_dx : arg10.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.1
    = dxG (i 1) (arg3.view.read (Elt Ideal) f3) (arg7.view.read (Elt Ideal) f7) x h g s u :=
  (congrArg (arg10.view.read (Elt Ideal)) (left_dx ..)).trans ((View.read_writes_junk_eq_canon arg10.view _).trans <|
    funext fun y => View.canon_apply_of_pieces _ _ (dx_pieces c i R).mem y (View.cover_of_tiledL _ ![1, 32, 128] (by sl_kernel_rfl) y))

/-- The rows kept across the grid: the point adds its eight blocks' statistics to its row (to zero, at the first step),
    and leaves the others. -/
theorem out_dmod (b' : Fin 5) (j : Fin 3) (d : Fin 1152) :
    arg11.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1.2.1 (ix3 b' j d)
      = if b'.val = (i 1).val then (if k0_cond1 i = 1#1 then 0 else arg11.view.read (Elt Ideal) f11 (ix3 b' j d))
          + ∑ k : Fin 8, blkG (i 1) (arg3.view.read (Elt Ideal) f3) (arg6.view.read (Elt Ideal) f6) (arg7.view.read (Elt Ideal) f7) x h s u (ix4 0 k j d)
        else arg11.view.read (Elt Ideal) f11 (ix3 b' j d) := by
  have hc := blk_canon c i (arg13 := arg13) (arg14 := arg14) f2 f3 f4 f5 f6 f7 f8 f9 R
  have e7 := k0_off7_eq i
  have e1 := k0_off1_eq i
  rw [left_dmod]
  by_cases hb : b'.val = (i 1).val
  · rw [if_pos hb]
    have hb' : b' = (i 1 : Fin 5) := Fin.ext hb
    subst hb'
    refine (row_hit arg11.view e7 _ _ _ j d).trans ((pay_tot _ _ _ _ _ _ _ _ _ j d).trans ?_)
    rw [Fin.sum_univ_eight]
    refine congrArg₂ (· + ·) ?_ ?_
    · refine (ld_row e7 _ j d).trans ?_
      by_cases h0 : k0_cond1 i = 1#1
      · rw [if_pos h0, dif_pos h0]
        exact (row_hit arg11.view e1 _ _ _ j d).trans (pay_zero _)
      · rw [if_neg h0, dif_neg h0]
    · exact congrArg₂ (· + ·) (congrArg₂ (· + ·) (congrArg₂ (· + ·) (congrArg₂ (· + ·) (congrArg₂ (· + ·) (congrArg₂ (· + ·) (congrArg₂ (· + ·)
        (ld_blk arg12.view hc 0 rfl _ j d) (ld_blk arg12.view hc 1 rfl _ j d)) (ld_blk arg12.view hc 2 rfl _ j d)) (ld_blk arg12.view hc 3 rfl _ j d))
        (ld_blk arg12.view hc 4 rfl _ j d)) (ld_blk arg12.view hc 5 rfl _ j d)) (ld_blk arg12.view hc 6 rfl _ j d)) (ld_blk arg12.view hc 7 rfl _ j d)
  · rw [if_neg hb]
    refine (row_skip arg11.view e7 _ _ _ (fun e => hb (congrArg Fin.val e)) j d).trans ?_
    by_cases h0 : k0_cond1 i = 1#1
    · rw [dif_pos h0]
      exact row_skip arg11.view e1 _ _ _ (fun e => hb (congrArg Fin.val e)) j d
    · rw [dif_neg h0]

end
end Cert.KernelIdeal.Gen
end
-- ==== Proof.Triple.lean ====
/-
  One grid point as a triple over its buffers' contents, the three results held to what they must be.
-/
module

public import proofs.«01_k».proof.Proof.Point

@[expose] public section

set_option maxRecDepth 16384

noncomputable section

namespace Cert.KernelIdeal.Gen

open Idealize.ShloMosaic Idealize.ShloMosaic.TcCoe Idealize.ShloMosaic.Tactic Cert.Dit
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- What a grid point leaves in its three results: from inputs that are real where the layer norm reads them, the block `D` of
    the input gradient, the rows `M` kept across the grid (from the rows `Y` found) and the block `B` of the statistics. -/
def PointRel (i : grid0.Coords) (x0 : Vec Ideal S5x1024 .f32) (x1 : Vec Ideal S5x1024 .f32) (x2 : Vec Ideal S5x1024 .f32) (x3 : Vec Ideal S1x1024x1152 .fp8e4m3) (x4 : Vec Ideal S1x1024x1152 .bf16) (x5 : Vec Ideal S1x1024x1152 .fp8e5m2) (x6 : Vec Ideal S1x1024x1152 .fp8e5m2) (x7 : Vec Ideal S5x1152 .f32)
    (Y : Vec Ideal S5x3x1152 .f32) (D : Vec Ideal S1x1024x1152 .bf16) (M : Vec Ideal S5x3x1152 .f32) (B : Vec Ideal S1x8x3x1152 .f32) : Prop :=
  ∀ x h g s u, Reals (i 1) x0 x2 x3 x6 x7 x h g s u →
    D = dxG (i 1) x1 x5 x h g s u
    ∧ (∀ b' j d, M (ix3 b' j d) = if b'.val = (i 1).val then (if k0_cond1 i = 1#1 then 0 else Y (ix3 b' j d)) + ∑ k : Fin 8, blkG (i 1) x1 x4 x5 x h s u (ix4 0 k j d)
        else Y (ix3 b' j d))
    ∧ B = blkG (i 1) x1 x4 x5 x h s u

/-- A grid point's run, from buffers held whole: it leaves its results as `PointRel` says. -/
theorem run_exists (c : Dev nD) (i : grid0.Coords) (arg2 : Memref sig .tc .vmem S5x1024 .f32) (harg2 : arg2.IsWhole) (arg3 : Memref sig .tc .vmem S5x1024 .f32) (harg3 : arg3.IsWhole) (arg4 : Memref sig .tc .vmem S5x1024 .f32) (harg4 : arg4.IsWhole) (arg5 : Memref sig .tc .vmem S1x1024x1152 .fp8e4m3) (harg5 : arg5.IsWhole) (arg6 : Memref sig .tc .vmem S1x1024x1152 .bf16) (harg6 : arg6.IsWhole) (arg7 : Memref sig .tc .vmem S1x1024x1152 .fp8e5m2) (harg7 : arg7.IsWhole) (arg8 : Memref sig .tc .vmem S1x1024x1152 .fp8e5m2) (harg8 : arg8.IsWhole) (arg9 : Memref sig .tc .vmem S5x1152 .f32) (harg9 : arg9.IsWhole) (arg10 : Memref sig .tc .vmem S1x1024x1152 .bf16) (harg10 : arg10.IsWhole) (arg11 : Memref sig .tc .vmem S5x3x1152 .f32) (harg11 : arg11.IsWhole) (arg12 : Memref sig .tc .vmem S1x8x3x1152 .f32) (harg12 : arg12.IsWhole) (arg13 : Memref sig .tc .vmem S2x256x1152 .bf16) (harg13 : arg13.IsWhole) (arg14 : Memref sig .tc .vmem S2x4x256x128 .f32) (harg14 : arg14.IsWhole)
    (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f11 : Bf (F := Ideal) c arg11) :
    ∃ W : Bf (F := Ideal) c arg10 × Bf (F := Ideal) c arg11 × Bf (F := Ideal) c arg12,
      (∀ (f10 : Bf (F := Ideal) c arg10) (f12 : Bf (F := Ideal) c arg12) (f13 : Bf (F := Ideal) c arg13) (f14 : Bf (F := Ideal) c arg14) (E : Set ℕ) (K : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14
            ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 W.1 ∗ pt c arg11 W.2.1 ∗ pt c arg12 W.2.2 ∗ (∃ f, pt c arg13 f) ∗ (∃ f, pt c arg14 f)) -∗ K ⟨⟩))
          ⊢ wp frame (wpE (defs₀ (F := Ideal)) Variants.none c none) E (cc0__body (F := Ideal) i arg2 harg2 arg3 harg3 arg4 harg4 arg5 harg5 arg6 harg6 arg7 harg7 arg8 harg8 arg9 harg9 arg10 harg10 arg11 harg11 arg12 harg12 arg13 harg13 arg14 harg14) K)
      ∧ PointRel i (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg11.view.read (Elt Ideal) f11)
          (arg10.view.read (Elt Ideal) W.1) (arg11.view.read (Elt Ideal) W.2.1) (arg12.view.read (Elt Ideal) W.2.2) :=
  ⟨(bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).1, (bodyRun (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11).2,
    fun _ _ _ _ _ R => ⟨out_dx c i harg2 harg3 harg4 harg5 harg6 harg7 harg8 harg9 harg10 harg11 harg12 harg13 harg14 f2 f3 f4 f5 f6 f7 f8 f9 f11 R, out_dmod c i harg2 harg3 harg4 harg5 harg6 harg7 harg8 harg9 harg10 harg11 harg12 harg13 harg14 f2 f3 f4 f5 f6 f7 f8 f9 f11 R,
      out_blk c i harg2 harg3 harg4 harg5 harg6 harg7 harg8 harg9 harg10 harg11 harg12 harg13 harg14 f2 f3 f4 f5 f6 f7 f8 f9 f11 R⟩⟩

/-- A grid point, from its inputs at `x0 … x7` and the rows kept across the grid at `Y`, leaves the inputs as they were and its
    results as `PointRel` says. -/
theorem pointRun (c : Dev nD) (i : grid0.Coords) (arg2 : Memref sig .tc .vmem S5x1024 .f32) (harg2 : arg2.IsWhole) (arg3 : Memref sig .tc .vmem S5x1024 .f32) (harg3 : arg3.IsWhole) (arg4 : Memref sig .tc .vmem S5x1024 .f32) (harg4 : arg4.IsWhole) (arg5 : Memref sig .tc .vmem S1x1024x1152 .fp8e4m3) (harg5 : arg5.IsWhole) (arg6 : Memref sig .tc .vmem S1x1024x1152 .bf16) (harg6 : arg6.IsWhole) (arg7 : Memref sig .tc .vmem S1x1024x1152 .fp8e5m2) (harg7 : arg7.IsWhole) (arg8 : Memref sig .tc .vmem S1x1024x1152 .fp8e5m2) (harg8 : arg8.IsWhole) (arg9 : Memref sig .tc .vmem S5x1152 .f32) (harg9 : arg9.IsWhole) (arg10 : Memref sig .tc .vmem S1x1024x1152 .bf16) (harg10 : arg10.IsWhole) (arg11 : Memref sig .tc .vmem S5x3x1152 .f32) (harg11 : arg11.IsWhole) (arg12 : Memref sig .tc .vmem S1x8x3x1152 .f32) (harg12 : arg12.IsWhole) (arg13 : Memref sig .tc .vmem S2x256x1152 .bf16) (harg13 : arg13.IsWhole) (arg14 : Memref sig .tc .vmem S2x4x256x128 .f32) (harg14 : arg14.IsWhole)
    (x0 : Vec Ideal S5x1024 .f32) (x1 : Vec Ideal S5x1024 .f32) (x2 : Vec Ideal S5x1024 .f32) (x3 : Vec Ideal S1x1024x1152 .fp8e4m3) (x4 : Vec Ideal S1x1024x1152 .bf16) (x5 : Vec Ideal S1x1024x1152 .fp8e5m2) (x6 : Vec Ideal S1x1024x1152 .fp8e5m2) (x7 : Vec Ideal S5x1152 .f32) (Y : Vec Ideal S5x3x1152 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare Y ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ D M B, ⌜PointRel i x0 x1 x2 x3 x4 x5 x6 x7 Y D M B⌝ ∗ owns (c : Thread nD τ) arg10 fullShare D ∗ owns (c : Thread nD τ) arg11 fullShare M ∗ owns (c : Thread nD τ) arg12 fullShare B) ∗ (∃ d, owns (c : Thread nD τ) arg13 fullShare d) ∗ (∃ d, owns (c : Thread nD τ) arg14 fullShare d)) -∗ K ⟨⟩))
      ⊢ wp frame (wpE (defs₀ (F := Ideal)) Variants.none c none) E (cc0__body (F := Ideal) i arg2 harg2 arg3 harg3 arg4 harg4 arg5 harg5 arg6 harg6 arg7 harg7 arg8 harg8 arg9 harg9 arg10 harg10 arg11 harg11 arg12 harg12 arg13 harg13 arg14 harg14) K := by
  unfold owns
  simp only [harg2.set_eq_univ, harg3.set_eq_univ, harg4.set_eq_univ, harg5.set_eq_univ, harg6.set_eq_univ, harg7.set_eq_univ, harg8.set_eq_univ, harg9.set_eq_univ, harg10.set_eq_univ, harg11.set_eq_univ, harg12.set_eq_univ, harg13.set_eq_univ, harg14.set_eq_univ]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%d14, %f14, -, H14⟩, Hk⟩
  subst hf2 hf3 hf4 hf5 hf6 hf7 hf8 hf9 hf11
  obtain ⟨W, hrun, hP⟩ := run_exists c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f11
  iapply (hrun f10 f12 f13 f14 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10 H11 H12]
  · iexists arg10.view.read (Elt Ideal) W.1, arg11.view.read (Elt Ideal) W.2.1, arg12.view.read (Elt Ideal) W.2.2
    isplitr; · ipureintro; exact hP
    isplitl [H10]
    · iexists _; isplitr; swap; · iexact H10
      ipureintro; rfl
    isplitl [H11]
    · iexists _; isplitr; swap; · iexact H11
      ipureintro; rfl
    iexists _; isplitr; swap; · iexact H12
    ipureintro; rfl
  icases H13 with ⟨%g13, H13⟩
  icases H14 with ⟨%g14, H14⟩
  isplitl [H13]
  · iexists _, _; isplitr; swap; · iexact H13
    ipureintro; rfl
  iexists _, _; isplitr; swap; · iexact H14
  ipureintro; rfl

end Cert.KernelIdeal.Gen
end
-- ==== Proof.Run.lean ====
/-
  The run of the kernel over its grid: what every point's results hold, the inputs left alone.
-/
module

public import proofs.«01_k».proof.Proof.Triple
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic Cert.Dit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

local notation "𝕄" => MT nD τ sig Unit (Elt Ideal) ℕ (UR sig nD τ) ℕ

variable (m : (ℓ : Loc nD τ sig) → Buf (Elt Ideal) ℓ) (ρ : Dev nD → PrngReg)

/-- The kernel zeroes its row at the points before point 5. -/
theorem hcond0_0 : ∀ t : Fin cfg0.N, k0_cond1 (grid0.coords t) = 1#1 ↔ t.val < 5 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [k0_cond1, e0, e1]
    word_cmp
   : ∀ t : Fin grid0.N, k0_cond1 (grid0.coords t) = 1#1 ↔ t.val < 5)

/-- The sample a point works on. -/
theorem coords_one (t : Fin cfg0.N) : (grid0.coords t 1).val = t.val % 5 := by
  have e1 : (grid0.coords t 1).val = t.val / 1 % 5 := Pipeline.Grid.coords_val t 1 (by decide) rfl
  rw [e1, Nat.div_one]

/-- The step a point works on. -/
theorem coords_zero (t : Fin cfg0.N) : (grid0.coords t 0).val = t.val / 5 := by
  have ht : t.val < 160 := Nat.lt_of_lt_of_eq t.isLt N_0
  have e0 : (grid0.coords t 0).val = t.val / 5 % 32 := Pipeline.Grid.coords_val t 0 (by decide) rfl
  omega

/-! ## The buffers a point works on -/

abbrev ms0_0 (t : Fin cfg0.N) : Memref sig .tc .vmem S5x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1152 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1152 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1152 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1152 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x1152 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1152 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5x3x1152 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x3x1152 .f32 := win0_10.stage (cfg0.slots t 10)
abbrev hs0_10 (t : Fin cfg0.N) : (ms0_10 t).IsWhole := hstage0_10 ((cfg0.slots t 10).cast nbuf0_10)
abbrev scM0_0 : Memref sig .tc .vmem S2x256x1152 .bf16 := Memref.whole cc0_scratch0
abbrev scM0_1 : Memref sig .tc .vmem S2x4x256x128 .f32 := Memref.whole cc0_scratch1

/-- The invariant between points: the two scratch buffers at some contents and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a point leaves -/

section
variable (c : Dev nD) (t : Fin cfg0.N)

/-- The inputs of point `t`, as real numbers: the codes of `x`, -/
def xT (r : Fin 1024) (d : Fin 1152) : ℝ := EReal.toReal ((iblk m c 3 t : Vec Ideal S1x1024x1152 .fp8e4m3) (ix3 0 r d))
/-- of `dh`, -/
def hT (r : Fin 1024) (d : Fin 1152) : ℝ := EReal.toReal ((iblk m c 6 t : Vec Ideal S1x1024x1152 .fp8e5m2) (ix3 0 r d))
/-- the modulation's row, -/
def gT (d : Fin 1152) : ℝ := EReal.toReal ((iblk m c 7 t : Vec Ideal S5x1152 .f32) (ix2 (grid0.coords t 1) d))
/-- the scales of `x`, -/
def sT (r : Fin 1024) : ℝ := EReal.toReal ((iblk m c 0 t : Vec Ideal S5x1024 .f32) (ix2 (grid0.coords t 1) r))
/-- and of `dh`. -/
def uT (r : Fin 1024) : ℝ := EReal.toReal ((iblk m c 2 t : Vec Ideal S5x1024 .f32) (ix2 (grid0.coords t 1) r))

/-- Point `t`'s inputs are real where the layer norm reads them. -/
def RealsAt : Prop := Reals (grid0.coords t 1) (iblk m c 0 t) (iblk m c 2 t) (iblk m c 3 t) (iblk m c 6 t) (iblk m c 7 t)
  (xT m c t) (hT m c t) (gT m c t) (sT m c t) (uT m c t)

/-- The block of the input gradient point `t` leaves. -/
def dxT : Vec Ideal S1x1024x1152 .bf16 :=
  dxG (grid0.coords t 1) (iblk m c 1 t) (iblk m c 5 t) (xT m c t) (hT m c t) (gT m c t) (sT m c t) (uT m c t)

/-- The block of the statistics point `t` leaves. -/
def blkT : Vec Ideal S1x8x3x1152 .f32 :=
  blkG (grid0.coords t 1) (iblk m c 1 t) (iblk m c 4 t) (iblk m c 5 t) (xT m c t) (hT m c t) (sT m c t) (uT m c t)

/-- What point `n` adds to its sample's row of sums. -/
def addT (j : Fin 3) (d : Fin 1152) (n : ℕ) : EReal :=
  if h : n < cfg0.N then ∑ k : Fin 8, blkT m c ⟨n, h⟩ (ix4 0 k j d) else 0

/-- Sample `b`'s row of sums after the first `n` points. -/
def accT (b : ℕ) (j : Fin 3) (d : Fin 1152) (n : ℕ) : EReal :=
  ∑ t ∈ Finset.range n, if t % 5 = b then addT m c j d t else 0

/-- What is held of the three results after point `t`. -/
def Rl : (w : Fin cfg0.W) → Fin cfg0.N → ((cfg0.win w).block.Idx → Elt Ideal (cfg0.win w).elt) → Prop := fun w t => match w with
  | ⟨8, _⟩ => fun X => RealsAt m c t → (X : Vec Ideal S1x1024x1152 .bf16) = dxT m c t
  | ⟨9, _⟩ => fun X => (∀ t', RealsAt m c t') → ∀ (b : Fin 5) j d, b.val ≤ t.val → (X : Vec Ideal S5x3x1152 .f32) (ix3 b j d) = accT m c b.val j d (t.val + 1)
  | ⟨10, _⟩ => fun X => RealsAt m c t → (X : Vec Ideal S1x8x3x1152 .f32) = blkT m c t
  | _ => fun _ => True

/-- Before its first point a sample's row of sums is zero. -/
theorem accT_first (b : ℕ) (j : Fin 3) (d : Fin 1152) (n : ℕ) (h5 : n < 5) (hb : n % 5 = b) : accT m c b j d n = 0 := by
  refine Finset.sum_eq_zero fun t ht => if_neg ?_
  have := Finset.mem_range.mp ht
  omega

/-- The rows of sums step by step. -/
theorem acc_step {D : Vec Ideal S1x1024x1152 .bf16} {M Y : Vec Ideal S5x3x1152 .f32} {B : Vec Ideal S1x8x3x1152 .f32}
    (hP : PointRel (grid0.coords t) (iblk m c 0 t) (iblk m c 1 t) (iblk m c 2 t) (iblk m c 3 t) (iblk m c 4 t) (iblk m c 5 t) (iblk m c 6 t) (iblk m c 7 t) Y D M B)
    (hR : ∀ t', RealsAt m c t')
    (hY : t.val ≠ 0 → ∀ (b : Fin 5) j d, b.val ≤ t.val - 1 → Y (ix3 b j d) = accT m c b.val j d (t.val - 1 + 1))
    (b : Fin 5) (j : Fin 3) (d : Fin 1152) (hb : b.val ≤ t.val) : M (ix3 b j d) = accT m c b.val j d (t.val + 1) := by
  have hM := (hP _ _ _ _ _ (hR t)).2.1 b j d
  rw [coords_one] at hM
  have hacc : accT m c b.val j d (t.val + 1) = accT m c b.val j d t.val + (if t.val % 5 = b.val then addT m c j d t.val else 0) :=
    Finset.sum_range_succ _ _
  have hadd : addT m c j d t.val = ∑ k : Fin 8, blkT m c t (ix4 0 k j d) := dif_pos t.isLt
  rw [hM, hacc]
  by_cases hbt : b.val = t.val % 5
  · rw [if_pos hbt, if_pos hbt.symm, hadd]
    refine congrArg (· + _) ?_
    by_cases h5 : t.val < 5
    · rw [if_pos ((hcond0_0 t).mpr h5), accT_first m c b.val j d t.val h5 hbt.symm]
    · rw [if_neg (fun h => h5 ((hcond0_0 t).mp h)), hY (by omega) b j d (by have := b.isLt; omega), Nat.sub_add_cancel (by omega)]
  · rw [if_neg hbt, if_neg (fun h => hbt h.symm), add_zero]
    have hb5 := b.isLt
    have h0 : t.val ≠ 0 := by omega
    have hle : b.val ≤ t.val - 1 := by
      by_cases h5 : t.val < 5
      · have : t.val % 5 = t.val := Nat.mod_eq_of_lt h5
        omega
      · omega
    rw [hY h0 b j d hle, Nat.sub_add_cancel (by omega)]

end

/-! ## The proof data -/

/-- The windows held to `Rl`: the three results. -/
def forgets0 : Fin 11 → Bool := fun w => w.val == 8 || w.val == 9 || w.val == 10

/-- The proof data: an input's buffer holds its block, a result's what `Rl` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves every input's buffer as it was (this and the next seven). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- Every input's buffer holds its block before the body (this and the next seven). -/
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- The data with the results held to `Rl`. -/
abbrev rdats (c : Dev nD) : Pipeline.RDat τ (Elt Ideal) Unit ℕ (UR sig nD τ) ℕ cfg0 c := (dats m 0 c).toRRel forgets0 (Rl m c)

/-- The rows of sums a point finds are those the point before left. -/
theorem finds_rows (c : Dev nD) (t : Fin cfg0.N) (Y : (cfg0.win 9).block.Idx → Elt Ideal (cfg0.win 9).elt) (hF : (rdats m c).Finds 9 t Y)
    (hR : ∀ t', RealsAt m c t') (h0 : t.val ≠ 0) :
    ∀ (b : Fin 5) j d, b.val ≤ t.val - 1 → (Y : Vec Ideal S5x3x1152 .f32) (ix3 b j d) = accT m c b.val j d (t.val - 1 + 1) := by
  have ht : t.val < 160 := Nat.lt_of_lt_of_eq t.isLt N_0
  rcases (Pipeline.RDat.finds_of_pos (rdats m c) (w := 9) (t := t) rfl h0 Y).mp hF with hf | hl
  · have := (flush0_9 _).mp hf
    dsimp only at this
    omega
  · have := (dats m 0 c).toRRel_leaves (w := 9) rfl hl
    exact this hR

/-- What a point is handed. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdats m c).Finds 8 t Y⌝ ∗ owns (c : Thread nD τ) (ms0_8 t) fullShare Y)
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y))

/-- What a point hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X))

set_option maxHeartbeats 2400000 in
/-- A point takes the one to the other. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, %hY9, H9⟩, ⟨%Y10, -, H10⟩⟩
  iapply (pointRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Y9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [HS0]; · iexact HS0
  isplitl [HS1]; · iexact HS1
  iintro ⟨H0, H1, H2, H3, H4, H5, H6, H7, ⟨%D, %M, %B, %hP, H8, H9, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists D; isplitr; swap; · iexact H8
    ipureintro; exact fun hR => (hP _ _ _ _ _ hR).1
  isplitl [H9]
  · iexists M; isplitr; swap; · iexact H9
    ipureintro; exact fun hR => acc_step m c t hP hR (finds_rows m c t Y9 hY9 hR)
  iexists B; isplitr; swap; · iexact H10
  ipureintro; exact fun hR => (hP _ _ _ _ _ hR).2.2

/-- The body's row of the table of definitions. -/
theorem defs₀_row (t : Fin cfg0.N) :
    defs₀ (F := Ideal) .tc cfg0.body (cfg0.bodyArgs t (cfg0.slots t)) = bodyAt0 t := by
  unfold defs₀; rw [Defs.onTc_tc]

/-- The body's obligation. -/
theorem body_obligation (c : Dev nD) : BodyObligationRel (dats m 0 c) (defs₀ (F := Ideal)) Variants.none () Set.univ forgets0 (Rl m c) := fun t => by
  rw [bigSep_W0, bigSep_W0, defs₀_row]
  exact triple_restated (sound_body m c t) rfl .rfl fun _ => .rfl

set_option backward.isDefEq.respectTransparency.types false in
/-- The kernel runs, leaves its inputs alone and its results as `Rl` says, every semaphore back at zero. -/
theorem run_main_quiescent : θ_run defs (onTc (τ := τ) (main (F := Ideal))) (s₀ m ρ) (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Gen
end
-- ==== Proof.Closed.lean ====
/-
  The three results as functions of the argument arrays' values: what the kernel and the reference both compute.
-/
module

public import proofs.«01_k».proof.Proof.Math

@[expose] public section

noncomputable section

namespace Cert.Dit

open Idealize.ShloMosaic

/-- Row `r` of block `n` of a sample's 32768 rows. -/
def row128 (n : Fin 256) (r : Fin 128) : Fin 32768 := ⟨n.val * 128 + r.val, by omega⟩

section
variable (x f dy dh : Fin 5 → Fin 32768 → Fin 1152 → EReal) (xs ys hs : Fin 5 → Fin 32768 → EReal) (md : Fin 5 → Fin 1152 → EReal)

/-- The arrays the layer norm reads hold real numbers. -/
structure RealArrays : Prop where
  x : ∀ b r d, x b r d = ((x b r d).toReal : EReal)
  h : ∀ b r d, dh b r d = ((dh b r d).toReal : EReal)
  g : ∀ b d, md b d = ((md b d).toReal : EReal)
  s : ∀ b r, xs b r = ((xs b r).toReal : EReal)
  u : ∀ b r, hs b r = ((hs b r).toReal : EReal)

/-- The input gradient: the branch's own gradient and the layer norm's backward. -/
def dxC (b : Fin 5) (r : Fin 32768) (d : Fin 1152) : EReal :=
  dy b r d * ys b r + ((lnBwd (fun e => (x b r e).toReal) (fun e => (dh b r e).toReal) (fun e => (md b e).toReal)
    (xs b r).toReal (hs b r).toReal d : ℝ) : EReal)

/-- The modulation's gradient over block `n` of 128 rows: of the shift, of the scale, of the gate. -/
def blkC (b : Fin 5) (n : Fin 256) (j : Fin 3) (d : Fin 1152) : EReal :=
  match j with
  | 0 => ((∑ r, (dh b (row128 n r) d).toReal * (hs b (row128 n r)).toReal : ℝ) : EReal)
  | 1 => ((∑ r, (dh b (row128 n r) d).toReal * (hs b (row128 n r)).toReal
      * xhat (fun e => (x b (row128 n r) e).toReal) (xs b (row128 n r)).toReal d : ℝ) : EReal)
  | 2 => ∑ r, dy b (row128 n r) d * ys b (row128 n r) * f b (row128 n r) d

/-- The modulation's gradient: the sum over the blocks. -/
def dmodC (b : Fin 5) (j : Fin 3) (d : Fin 1152) : EReal := ∑ n : Fin 256, blkC x f dy dh xs ys hs b n j d

end
end Cert.Dit
end
-- ==== Proof.Result.lean ====
/-
  What the kernel's run leaves: its arguments as they were, and its three results in closed form.
-/
module

public import proofs.«01_k».proof.Proof.Run
public import proofs.«01_k».proof.Proof.Closed
public import Idealize.ShloMosaic.Lib.Pipeline.ArrRel
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Dit
open Idealize.SL.Sem

variable (m : (ℓ : Loc nD τ sig) → Buf (Elt Ideal) ℓ) (ρ : Dev nD → PrngReg)

/-! ## The blocks of the arguments -/

/-- The block that point `t` stages of the scales of `x`. -/
theorem index0 : ∀ t : Fin cfg0.N, win0_0.index t = ![0, t.val / 5] := (by decide +kernel : ∀ t : Fin grid0.N, win0_0.index t = ![0, t.val / 5])
/-- The block that point `t` stages of the scales of `dy`. -/
theorem index1 : ∀ t : Fin cfg0.N, win0_1.index t = ![0, t.val / 5] := (by decide +kernel : ∀ t : Fin grid0.N, win0_1.index t = ![0, t.val / 5])
/-- The block that point `t` stages of the scales of `dh`. -/
theorem index2 : ∀ t : Fin cfg0.N, win0_2.index t = ![0, t.val / 5] := (by decide +kernel : ∀ t : Fin grid0.N, win0_2.index t = ![0, t.val / 5])
/-- The block that point `t` stages of the codes of `x`. -/
theorem index3 : ∀ t : Fin cfg0.N, win0_3.index t = ![t.val % 5, t.val / 5, 0] := (by decide +kernel : ∀ t : Fin grid0.N, win0_3.index t = ![t.val % 5, t.val / 5, 0])
/-- The block that point `t` stages of the branch's output. -/
theorem index4 : ∀ t : Fin cfg0.N, win0_4.index t = ![t.val % 5, t.val / 5, 0] := (by decide +kernel : ∀ t : Fin grid0.N, win0_4.index t = ![t.val % 5, t.val / 5, 0])
/-- The block that point `t` stages of the codes of `dy`. -/
theorem index5 : ∀ t : Fin cfg0.N, win0_5.index t = ![t.val % 5, t.val / 5, 0] := (by decide +kernel : ∀ t : Fin grid0.N, win0_5.index t = ![t.val % 5, t.val / 5, 0])
/-- The block that point `t` stages of the codes of `dh`. -/
theorem index6 : ∀ t : Fin cfg0.N, win0_6.index t = ![t.val % 5, t.val / 5, 0] := (by decide +kernel : ∀ t : Fin grid0.N, win0_6.index t = ![t.val % 5, t.val / 5, 0])
/-- The block that point `t` stages of the modulation. -/
theorem index7 : ∀ t : Fin cfg0.N, win0_7.index t = ![0, 0] := (by decide +kernel : ∀ t : Fin grid0.N, win0_7.index t = ![0, 0])
/-- The block of the input gradient that point `t` writes. -/
theorem index8 : ∀ t : Fin cfg0.N, win0_8.index t = ![t.val % 5, t.val / 5, 0] := (by decide +kernel : ∀ t : Fin grid0.N, win0_8.index t = ![t.val % 5, t.val / 5, 0])
/-- The block of the statistics that point `t` writes. -/
theorem index10 : ∀ t : Fin cfg0.N, win0_10.index t = ![t.val % 5, t.val / 5, 0, 0] := (by decide +kernel : ∀ t : Fin grid0.N, win0_10.index t = ![t.val % 5, t.val / 5, 0, 0])

/-- The arguments' values, by coordinates: the codes of `x`, -/
def aX (c : Dev nD) (b : Fin 5) (r : Fin 32768) (d : Fin 1152) : EReal := (V m c main_v0 : Vec Ideal S5x32768x1152 .fp8e4m3) (ix3 b r d)
/-- the branch's output, -/
def aF (c : Dev nD) (b : Fin 5) (r : Fin 32768) (d : Fin 1152) : EReal := (V m c main_arg2 : Vec Ideal S5x32768x1152 .bf16) (ix3 b r d)
/-- the codes of `dy`, -/
def aY (c : Dev nD) (b : Fin 5) (r : Fin 32768) (d : Fin 1152) : EReal := (V m c main_arg3 : Vec Ideal S5x32768x1152 .fp8e5m2) (ix3 b r d)
/-- of `dh`, -/
def aH (c : Dev nD) (b : Fin 5) (r : Fin 32768) (d : Fin 1152) : EReal := (V m c main_v1 : Vec Ideal S5x32768x1152 .fp8e5m2) (ix3 b r d)
/-- the scales of `x`, -/
def aXs (c : Dev nD) (b : Fin 5) (r : Fin 32768) : EReal := (V m c main_arg1 : Vec Ideal S5x32768 .f32) (ix2 b r)
/-- of `dy`, -/
def aYs (c : Dev nD) (b : Fin 5) (r : Fin 32768) : EReal := (V m c main_arg4 : Vec Ideal S5x32768 .f32) (ix2 b r)
/-- of `dh`, -/
def aHs (c : Dev nD) (b : Fin 5) (r : Fin 32768) : EReal := (V m c main_arg6 : Vec Ideal S5x32768 .f32) (ix2 b r)
/-- and the modulation. -/
def aG (c : Dev nD) (b : Fin 5) (d : Fin 1152) : EReal := (V m c main_arg7 : Vec Ideal S5x1152 .f32) (ix2 b d)

section
variable (c : Dev nD) (t : Fin cfg0.N)

/-- The sample of point `t`, -/
def bAt : Fin 5 := ⟨t.val % 5, Nat.mod_lt _ (by decide)⟩
/-- and the row of the arrays its row `r` is. -/
def rAt (r : Fin 1024) : Fin 32768 := ⟨t.val / 5 * 1024 + r.val, by
  have ht : t.val < 160 := Nat.lt_of_lt_of_eq t.isLt N_0
  omega⟩

/-- The second grid coordinate is the sample. -/
theorem coord_eq : (grid0.coords t 1 : Fin 5) = bAt t := Fin.ext (coords_one t)

/-- The staged scales of `x` by the array's coordinates. -/
theorem iblk0 (b : Fin 5) (r : Fin 1024) : (iblk m c 0 t : Vec Ideal S5x1024 .f32) (ix2 b r) = aXs m c b (rAt t r) := by
  unfold aXs; blk_ext [iblk, index0 t, rAt]
/-- The staged scales of `dy` by the array's coordinates. -/
theorem iblk1 (b : Fin 5) (r : Fin 1024) : (iblk m c 1 t : Vec Ideal S5x1024 .f32) (ix2 b r) = aYs m c b (rAt t r) := by
  unfold aYs; blk_ext [iblk, index1 t, rAt]
/-- The staged scales of `dh` by the array's coordinates. -/
theorem iblk2 (b : Fin 5) (r : Fin 1024) : (iblk m c 2 t : Vec Ideal S5x1024 .f32) (ix2 b r) = aHs m c b (rAt t r) := by
  unfold aHs; blk_ext [iblk, index2 t, rAt]
/-- The staged codes of `x` by the array's coordinates. -/
theorem iblk3 (r : Fin 1024) (d : Fin 1152) : (iblk m c 3 t : Vec Ideal S1x1024x1152 .fp8e4m3) (ix3 0 r d) = aX m c (bAt t) (rAt t r) d := by
  unfold aX; blk_ext [iblk, index3 t, rAt, bAt]
/-- The staged branch's output by the array's coordinates. -/
theorem iblk4 (r : Fin 1024) (d : Fin 1152) : (iblk m c 4 t : Vec Ideal S1x1024x1152 .bf16) (ix3 0 r d) = aF m c (bAt t) (rAt t r) d := by
  unfold aF; blk_ext [iblk, index4 t, rAt, bAt]
/-- The staged codes of `dy` by the array's coordinates. -/
theorem iblk5 (r : Fin 1024) (d : Fin 1152) : (iblk m c 5 t : Vec Ideal S1x1024x1152 .fp8e5m2) (ix3 0 r d) = aY m c (bAt t) (rAt t r) d := by
  unfold aY; blk_ext [iblk, index5 t, rAt, bAt]
/-- The staged codes of `dh` by the array's coordinates. -/
theorem iblk6 (r : Fin 1024) (d : Fin 1152) : (iblk m c 6 t : Vec Ideal S1x1024x1152 .fp8e5m2) (ix3 0 r d) = aH m c (bAt t) (rAt t r) d := by
  unfold aH; blk_ext [iblk, index6 t, rAt, bAt]
/-- The staged modulation by the array's coordinates. -/
theorem iblk7 (b : Fin 5) (d : Fin 1152) : (iblk m c 7 t : Vec Ideal S5x1152 .f32) (ix2 b d) = aG m c b d := by
  unfold aG; blk_ext [iblk, index7 t]

/-- The sample's row of the scales of `x`. -/
theorem row0 (r : Fin 1024) : (iblk m c 0 t : Vec Ideal S5x1024 .f32) (ix2 (grid0.coords t 1 : Fin 5) r) = aXs m c (bAt t) (rAt t r) :=
  (congrArg (fun b : Fin 5 => (iblk m c 0 t : Vec Ideal S5x1024 .f32) (ix2 b r)) (coord_eq t)).trans (iblk0 m c t _ r)
/-- The sample's row of the scales of `dh`. -/
theorem row2 (r : Fin 1024) : (iblk m c 2 t : Vec Ideal S5x1024 .f32) (ix2 (grid0.coords t 1 : Fin 5) r) = aHs m c (bAt t) (rAt t r) :=
  (congrArg (fun b : Fin 5 => (iblk m c 2 t : Vec Ideal S5x1024 .f32) (ix2 b r)) (coord_eq t)).trans (iblk2 m c t _ r)
/-- The sample's row of the modulation. -/
theorem row7 (d : Fin 1152) : (iblk m c 7 t : Vec Ideal S5x1152 .f32) (ix2 (grid0.coords t 1 : Fin 5) d) = aG m c (bAt t) d :=
  (congrArg (fun b : Fin 5 => (iblk m c 7 t : Vec Ideal S5x1152 .f32) (ix2 b d)) (coord_eq t)).trans (iblk7 m c t _ d)

/-- What equals a real is real. -/
theorem real_of {a b : EReal} (e : a = b) (h : b = (b.toReal : EReal)) : a = (a.toReal : EReal) := e ▸ h

/-- Real arrays have real blocks. -/
theorem realsAt (hR : RealArrays (aX m c) (aH m c) (aXs m c) (aHs m c) (aG m c)) : RealsAt m c t where
  x r d := real_of (iblk3 m c t r d) (hR.x _ _ _)
  h r d := real_of (iblk6 m c t r d) (hR.h _ _ _)
  g d := real_of (row7 m c t d) (hR.g _ _)
  s r := real_of (row0 m c t r) (hR.s _ _)
  u r := real_of (row2 m c t r) (hR.u _ _)

/-- A point's block of the input gradient, by the arrays, -/
theorem dxT_eq (r : Fin 1024) (d : Fin 1152) : dxT m c t (ix3 0 r d)
    = dxC (aX m c) (aY m c) (aH m c) (aXs m c) (aYs m c) (aHs m c) (aG m c) (bAt t) (rAt t r) d := by
  unfold dxT dxG dxC xT hT gT sT uT
  simp only [coord_eq, ix3_0, ix3_1, ix3_2, iblk0, iblk1, iblk2, iblk3, iblk5, iblk6, iblk7]

/-- Block `k` of point `t` is this block of the sample. -/
def nAt (k : Fin 8) : Fin 256 := ⟨t.val / 5 * 8 + k.val, by
  have ht : t.val < 160 := Nat.lt_of_lt_of_eq t.isLt N_0
  omega⟩

/-- Row `r` of the point's block `k` is row `r` of the sample's block. -/
theorem rAt_rowOf (k : Fin 8) (r : Fin 128) : rAt t (rowOf k r) = row128 (nAt t k) r := Fin.ext (by
  simp only [rAt, rowOf, row128, nAt]; omega)

/-- and of the statistics. -/
theorem blkT_eq (k : Fin 8) (j : Fin 3) (d : Fin 1152) : blkT m c t (ix4 0 k j d)
    = blkC (aX m c) (aF m c) (aY m c) (aH m c) (aXs m c) (aYs m c) (aHs m c) (bAt t) (nAt t k) j d := by
  unfold blkT blkG blkAt blkC xT hT sT uT
  simp only [coord_eq, ix4_1, ix4_2, ix4_3, iblk0, iblk1, iblk2, iblk3, iblk4, iblk5, iblk6, rAt_rowOf]
  fin_cases j <;> rfl

end

/-! ## The rows of sums after the last point -/

/-- A block's statistics at a number that may be out of range. -/
def blkN (c : Dev nD) (b : Fin 5) (j : Fin 3) (d : Fin 1152) (n : ℕ) : EReal :=
  if h : n < 256 then blkC (aX m c) (aF m c) (aY m c) (aH m c) (aXs m c) (aYs m c) (aHs m c) b ⟨n, h⟩ j d else 0

/-- What point `5 s + b` adds are the eight blocks from `8 s` on. -/
theorem addT_eq (c : Dev nD) (b : Fin 5) (j : Fin 3) (d : Fin 1152) (s : ℕ) (hs : s < 32) :
    addT m c j d (s * 5 + b.val) = ∑ k ∈ Finset.range 8, blkN m c b j d (s * 8 + k) := by
  have hb := b.isLt
  have hn : s * 5 + b.val < cfg0.N := Nat.lt_of_lt_of_eq (by omega : s * 5 + b.val < 160) N_0.symm
  unfold addT
  rw [dif_pos hn, ← Fin.sum_univ_eq_sum_range (fun k => blkN m c b j d (s * 8 + k))]
  refine Finset.sum_congr rfl fun k _ => ?_
  have hk := k.isLt
  rw [blkT_eq]
  unfold blkN
  rw [dif_pos (by omega : s * 8 + k.val < 256)]
  have e1 : bAt ⟨s * 5 + b.val, hn⟩ = b := Fin.ext (by simp only [bAt]; omega)
  have e2 : nAt ⟨s * 5 + b.val, hn⟩ k = ⟨s * 8 + k.val, by omega⟩ := Fin.ext (by simp only [nAt]; omega)
  rw [e1, e2]

/-- After all points the rows of sums are the sums over all blocks. -/
theorem acc_last (c : Dev nD) (b : Fin 5) (j : Fin 3) (d : Fin 1152) : accT m c b.val j d 160
    = dmodC (aX m c) (aF m c) (aY m c) (aH m c) (aXs m c) (aYs m c) (aHs m c) b j d := by
  have hb := b.isLt
  have e : dmodC (aX m c) (aF m c) (aY m c) (aH m c) (aXs m c) (aYs m c) (aHs m c) b j d = ∑ n ∈ Finset.range (32 * 8), blkN m c b j d n := by
    rw [show 32 * 8 = 256 from rfl, ← Fin.sum_univ_eq_sum_range (blkN m c b j d)]
    refine Finset.sum_congr rfl fun n _ => ?_
    unfold blkN
    rw [dif_pos n.isLt]
  rw [e, Finset.sum_range_mul_split]
  unfold accT
  rw [show 160 = 32 * 5 from rfl, Finset.sum_range_mul_split]
  refine Finset.sum_congr rfl fun s hs => ?_
  rw [← addT_eq m c b j d s (Finset.mem_range.mp hs), Finset.sum_eq_single b.val]
  · rw [if_pos (by omega)]
  · intro q hq hne
    have := Finset.mem_range.mp hq
    rw [if_neg (by omega)]
  · intro hq
    exact absurd (Finset.mem_range.mpr hb) hq

/-! ## The results -/

/-- An index of a block, by its row and column. -/
theorem idx_row (y : S1x1024x1152.Idx) : ∃ (r : Fin 1024) (d : Fin 1152), y = ix3 0 r d :=
  ⟨y 1, y 2, (eq_ix3 y).trans (congrArg (fun a : Fin 1 => (ix3 a (y 1) (y 2) : S1x1024x1152.Idx)) (@Subsingleton.elim (Fin 1) _ (y 0) 0))⟩

/-- An index of the statistics' block. -/
theorem idx_blk (y : S1x8x3x1152.Idx) : ∃ (k : Fin 8) (j : Fin 3) (d : Fin 1152), y = ix4 0 k j d :=
  ⟨y 1, y 2, y 3, (eq_ix4 y).trans (congrArg (fun a : Fin 1 => (ix4 a (y 1) (y 2) (y 3) : S1x8x3x1152.Idx)) (@Subsingleton.elim (Fin 1) _ (y 0) 0))⟩

section
variable {m} {r : PUnit × MemSt nD τ sig (Elt Ideal)} (h : Pipeline.RDat.FramePost (cfgs 0) (rdats m) (V m) r) (c : Dev nD)
  (hR : RealArrays (aX m c) (aH m c) (aXs m c) (aHs m c) (aG m c))
include h hR

/-- The input gradient after the run. -/
theorem res_dx : (r.2.mem ((c.tc : Thread nD τ).loc main_v2_0) : Vec Ideal S5x32768x1152 .bf16)
    = fun i => dxC (aX m c) (aY m c) (aH m c) (aXs m c) (aYs m c) (aHs m c) (aG m c) (i 0) (i 1) (i 2) := by
  obtain ⟨after, hL, hA⟩ := h.exists_exact c
  refine (hA 8).trans (Pipeline.Dat.arrAt_eq_of_covers _ 8 _ (by decide +kernel) fun t hf y => ?_)
  have hl := (dats m 0 c).toRRel_leaves (w := 8) rfl (hL 8 t hf) (realsAt m c t hR)
  obtain ⟨r', d, rfl⟩ := idx_row y
  blk_simp
  refine (congrFun hl _).trans ((dxT_eq m c t r' d).trans ?_)
  refine congr (congr (congrArg _ (Fin.ext ?_)) (Fin.ext ?_)) (Fin.ext ?_) <;> blk_simp [index8 t, bAt, rAt] <;> simp

/-- The statistics after the run. -/
theorem res_blk : (r.2.mem ((c.tc : Thread nD τ).loc main_v2_2) : Vec Ideal S5x256x3x1152 .f32)
    = fun i => blkC (aX m c) (aF m c) (aY m c) (aH m c) (aXs m c) (aYs m c) (aHs m c) (i 0) (i 1) (i 2) (i 3) := by
  obtain ⟨after, hL, hA⟩ := h.exists_exact c
  refine (hA 10).trans (Pipeline.Dat.arrAt_eq_of_covers _ 10 _ (by decide +kernel) fun t hf y => ?_)
  have hl := (dats m 0 c).toRRel_leaves (w := 10) rfl (hL 10 t hf) (realsAt m c t hR)
  obtain ⟨k, j, d, rfl⟩ := idx_blk y
  blk_simp
  refine (congrFun hl _).trans ((blkT_eq m c t k j d).trans ?_)
  refine congr (congr (congr (congrArg _ (Fin.ext ?_)) (Fin.ext ?_)) (Fin.ext ?_)) (Fin.ext ?_) <;> blk_simp [index10 t, bAt, nAt] <;> simp

/-- The rows of sums after the run. -/
theorem res_dmod : (r.2.mem ((c.tc : Thread nD τ).loc main_v2_1) : Vec Ideal S5x3x1152 .f32)
    = fun i => dmodC (aX m c) (aF m c) (aY m c) (aH m c) (aXs m c) (aYs m c) (aHs m c) (i 0) (i 1) (i 2) := by
  obtain ⟨after, hL, hA⟩ := h.exists_exact c
  have hw : (cfg0.win 9).WholeAt ⟨159, Nat.lt_of_lt_of_eq (by decide) N_0.symm⟩ := by decide +kernel
  refine (hA 9).trans (Pipeline.Dat.arrAt_eq_of_after_last _ 9 _ hw _ fun j => ?_)
  have hl := (dats m 0 c).toRRel_leaves (w := 9) rfl (hL 9 _ hw.1) fun t => realsAt m c t hR
  blk_simp
  refine (congrArg (after 9 _) (eq_ix3 _)).trans ((hl _ _ _ ?_).trans (acc_last m c _ _ _))
  have hb := (j 0).isLt
  exact Nat.le_of_lt (Nat.lt_of_lt_of_le hb (by decide))

end

/-! ## The arguments -/

/-- The run leaves the arguments as they were. -/
theorem args_kept {r : PUnit × MemSt nD τ sig (Elt Ideal)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    (Pipeline.RDat.FramePost.arr_in h c 0 rfl).trans ((A_eq m c 0).trans (V_main_arg1 m c)),
    (Pipeline.RDat.FramePost.arr_in h c 4 rfl).trans ((A_eq m c 4).trans (V_main_arg2 m c)),
    (Pipeline.RDat.FramePost.arr_in h c 5 rfl).trans ((A_eq m c 5).trans (V_main_arg3 m c)),
    (Pipeline.RDat.FramePost.arr_in h c 1 rfl).trans ((A_eq m c 1).trans (V_main_arg4 m c)),
    ((h c).2 main_arg5 (Pipeline.mem_restRefs_of main_arg5 (by decide) (by decide))).trans (V_main_arg5 m c),
    (Pipeline.RDat.FramePost.arr_in h c 2 rfl).trans ((A_eq m c 2).trans (V_main_arg6 m c)),
    (Pipeline.RDat.FramePost.arr_in h c 7 rfl).trans ((A_eq m c 7).trans (V_main_arg7 m c))⟩

/-- The kernel runs, its arguments end as they were, and every semaphore is back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_kept m h.1, h.2⟩) (run_main_quiescent m ρ)

end Cert.KernelIdeal.Gen
end
-- ==== Proof.RefRows.lean ====
/-
  The reference's three stores as functions of the values it loads: over the extended reals, when the codes and the scales
  are finite numbers, they are the closed forms of Closed.lean.
-/
module

public import proofs.«01_k».proof.Proof.Closed
public import proofs.«01_k».proof.Proof.Gen.ReferenceIdeal.Skeleton

@[expose] public section

set_option maxRecDepth 16384

noncomputable section

namespace Cert.ReferenceIdeal.Gen

open Idealize.ShloMosaic Cert.Dit

/-- The division by the row's length is a product. -/
theorem div_1152 (a : EReal) : Ideal.div a ((1152 : ℝ) : EReal) = a * ((1 / 1152 : ℝ) : EReal) :=
  Ideal.div_coe (by norm_num) a

section
variable {X : Vec Ideal S5x32768x1152 .fp8e4m3} {S U T : Vec Ideal S5x32768 .f32} {O : Vec Ideal S5x32768x1152 .bf16}
  {Y H : Vec Ideal S5x32768x1152 .fp8e5m2} {G : Vec Ideal S5x1152 .f32}
variable {x h : Fin 5 → Fin 32768 → Fin 1152 → ℝ} {g : Fin 5 → Fin 1152 → ℝ} {s u : Fin 5 → Fin 32768 → ℝ}
  (hX : ∀ b r d, X (ix3 b r d) = ((x b r d : ℝ) : EReal)) (hH : ∀ b r d, H (ix3 b r d) = ((h b r d : ℝ) : EReal))
  (hG : ∀ b d, G (ix2 b d) = ((g b d : ℝ) : EReal)) (hS : ∀ b r, S (ix2 b r) = ((s b r : ℝ) : EReal))
  (hU : ∀ b r, U (ix2 b r) = ((u b r : ℝ) : EReal))

/-- The branch's own gradient. -/
theorem rfOwn (b : Fin 5) (r : Fin 32768) (d : Fin 1152) : k0_pay1 Y T (ix3 b r d) = Y (ix3 b r d) * T (ix2 b r) := by
  pointwise [k0_pay1]

include hH hU in
/-- The scaled gradient of the layer norm's output, -/
theorem rfDh (b : Fin 5) (r : Fin 32768) (d : Fin 1152) : k0_pay2 H U (ix3 b r d) = ((h b r d * u b r : ℝ) : EReal) := by
  pointwise [k0_pay2]
  rw [hH, hU, ← EReal.coe_mul]

include hH hU in
/-- its sum over a block of 128 rows. -/
theorem rfShift (b : Fin 5) (n : Fin 256) (d : Fin 1152) :
    k0_pay6 H U (ix3 b n d) = ((∑ r, h b (row128 n r) d * u b (row128 n r) : ℝ) : EReal) := by
  pointwise [k0_pay6, k0_pay2]
  simp only [hH, hU, ← EReal.coe_zero, ← coe_sum, ← EReal.coe_mul, ← EReal.coe_add]
  rfl

include hX hS

/-- The centred row. -/
theorem rfCtr (b : Fin 5) (r : Fin 32768) (d : Fin 1152) : k0_pay3 X S (ix3 b r d) = ((ctr (x b r) (s b r) d : ℝ) : EReal) := by
  pointwise [k0_pay3, ofBits_1152]
  simp only [hX, hS, div_1152, ← EReal.coe_zero, ← coe_sum, ← EReal.coe_mul, ← EReal.coe_sub, ← EReal.coe_add]
  rfl

/-- The reciprocal standard deviation. -/
theorem rfRstd (b : Fin 5) (r : Fin 32768) : k0_pay4 X S (ix3 b r 0) = ((rstd (x b r) (s b r) : ℝ) : EReal) := by
  pointwise [k0_pay4, ofBits_1152, ofBits_eps]
  simp only [rfCtr hX hS, div_1152, ← EReal.coe_zero, ← coe_sum, ← EReal.coe_mul, ← EReal.coe_sub, ← EReal.coe_add]
  rw [rsqrt_pos (var_pos (x b r) (s b r))]
  rfl

/-- The normalised row. -/
theorem rfXhat (b : Fin 5) (r : Fin 32768) (d : Fin 1152) : k0_pay5 X S (ix3 b r d) = ((xhat (x b r) (s b r) d : ℝ) : EReal) := by
  pointwise [k0_pay5]
  rw [rfCtr hX hS, rfRstd hX hS, ← EReal.coe_mul]
  rfl

include hH hU

/-- The scaled gradient times the normalised row. -/
theorem rfScale (b : Fin 5) (r : Fin 32768) (d : Fin 1152) :
    k0_pay7 X S H U (ix3 b r d) = ((h b r d * u b r * xhat (x b r) (s b r) d : ℝ) : EReal) := by
  pointwise [k0_pay7]
  rw [rfDh hH hU, rfXhat hX hS, ← EReal.coe_mul]

include hG in
/-- The input gradient. -/
theorem rfDx (b : Fin 5) (r : Fin 32768) (d : Fin 1152) :
    k0_pay10 (k0_pay1 Y T) (k0_pay2 H U) (k0_pay4 X S) (k0_pay5 X S) G (ix3 b r d)
      = Y (ix3 b r d) * T (ix2 b r) + ((lnBwd (x b r) (h b r) (g b) (s b r) (u b r) d : ℝ) : EReal) := by
  pointwise [k0_pay10, ofBits_1152]
  simp only [rfOwn, rfDh hH hU, rfXhat hX hS, rfRstd hX hS, hG, div_1152, ← EReal.coe_zero, ← EReal.coe_one, ← coe_sum,
    ← EReal.coe_mul, ← EReal.coe_sub, ← EReal.coe_add]
  rfl

end

section
variable (X : Vec Ideal S5x32768x1152 .fp8e4m3) (S U T : Vec Ideal S5x32768 .f32) (O : Vec Ideal S5x32768x1152 .bf16)
  (Y H : Vec Ideal S5x32768x1152 .fp8e5m2) (G : Vec Ideal S5x1152 .f32)
  (hR : RealArrays (fun b r d => X (ix3 b r d)) (fun b r d => H (ix3 b r d)) (fun b r => S (ix2 b r)) (fun b r => U (ix2 b r)) (fun b d => G (ix2 b d)))
include hR

/-- The reference's input gradient in closed form. -/
theorem ref_dx (b : Fin 5) (r : Fin 32768) (d : Fin 1152) :
    k0_pay10 (k0_pay1 Y T) (k0_pay2 H U) (k0_pay4 X S) (k0_pay5 X S) G (ix3 b r d)
      = dxC (fun b r d => X (ix3 b r d)) (fun b r d => Y (ix3 b r d)) (fun b r d => H (ix3 b r d)) (fun b r => S (ix2 b r))
        (fun b r => T (ix2 b r)) (fun b r => U (ix2 b r)) (fun b d => G (ix2 b d)) b r d :=
  rfDx hR.x hR.h hR.g hR.s hR.u b r d

omit hR in
/-- The three statistics of the reference's block, by their number. -/
theorem rfPick (b : Fin 5) (n : Fin 256) (j : Fin 3) (d : Fin 1152) :
    k0_pay8 (k0_pay1 Y T) (k0_pay6 H U) (k0_pay7 X S H U) O (ix4 b n j d) = match j with
      | 0 => k0_pay6 H U (ix3 b n d)
      | 1 => ∑ r, k0_pay7 X S H U (ix3 b (row128 n r) d)
      | 2 => ∑ r, k0_pay1 Y T (ix3 b (row128 n r) d) * O (ix3 b (row128 n r) d) := by
  match j with
  | 0 => pointwise [k0_pay8]
  | 1 => pointwise [k0_pay8]; rfl
  | 2 => pointwise [k0_pay8]; rfl

/-- The reference's statistics in closed form. -/
theorem ref_blk (b : Fin 5) (n : Fin 256) (j : Fin 3) (d : Fin 1152) :
    k0_pay8 (k0_pay1 Y T) (k0_pay6 H U) (k0_pay7 X S H U) O (ix4 b n j d)
      = blkC (fun b r d => X (ix3 b r d)) (fun b r d => O (ix3 b r d)) (fun b r d => Y (ix3 b r d)) (fun b r d => H (ix3 b r d))
        (fun b r => S (ix2 b r)) (fun b r => T (ix2 b r)) (fun b r => U (ix2 b r)) b n j d := by
  rw [rfPick]
  match j with
  | 0 => exact rfShift hR.h hR.u b n d
  | 1 =>
    simp only [rfScale hR.x hR.h hR.s hR.u, ← coe_sum]
    rfl
  | 2 =>
    simp only [rfOwn]
    rfl

/-- The reference's modulation gradient in closed form. -/
theorem ref_dmod (b : Fin 5) (j : Fin 3) (d : Fin 1152) :
    k0_pay9 (k0_pay1 Y T) (k0_pay6 H U) (k0_pay7 X S H U) O (ix3 b j d)
      = dmodC (fun b r d => X (ix3 b r d)) (fun b r d => O (ix3 b r d)) (fun b r d => Y (ix3 b r d)) (fun b r d => H (ix3 b r d))
        (fun b r => S (ix2 b r)) (fun b r => T (ix2 b r)) (fun b r => U (ix2 b r)) b j d := by
  pointwise [k0_pay9]
  simp only [ref_blk X S U T O Y H G hR]
  rfl

end
end Cert.ReferenceIdeal.Gen
end
-- ==== Proof.RefValue.lean ====
/-
  What the reference's run leaves: its three results in closed form.
-/
module

public import proofs.«01_k».proof.Proof.RefRows
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic Cert.Dit
open Idealize.SL.Sem

variable (m : (ℓ : Loc nD τ sig) → Buf (Elt Ideal) ℓ)

/-! ## The arguments by coordinates, in the kernel's order -/

/-- The codes of `x`, -/
def aX (c : Dev nD) (b : Fin 5) (r : Fin 32768) (d : Fin 1152) : EReal := (V m c main_v0 : Vec Ideal S5x32768x1152 .fp8e4m3) (ix3 b r d)
/-- the branch's output, -/
def aF (c : Dev nD) (b : Fin 5) (r : Fin 32768) (d : Fin 1152) : EReal := (V m c main_arg2 : Vec Ideal S5x32768x1152 .bf16) (ix3 b r d)
/-- the codes of `dy`, -/
def aY (c : Dev nD) (b : Fin 5) (r : Fin 32768) (d : Fin 1152) : EReal := (V m c main_arg3 : Vec Ideal S5x32768x1152 .fp8e5m2) (ix3 b r d)
/-- of `dh`, -/
def aH (c : Dev nD) (b : Fin 5) (r : Fin 32768) (d : Fin 1152) : EReal := (V m c main_v1 : Vec Ideal S5x32768x1152 .fp8e5m2) (ix3 b r d)
/-- the scales of `x`, -/
def aXs (c : Dev nD) (b : Fin 5) (r : Fin 32768) : EReal := (V m c main_arg1 : Vec Ideal S5x32768 .f32) (ix2 b r)
/-- of `dy`, -/
def aYs (c : Dev nD) (b : Fin 5) (r : Fin 32768) : EReal := (V m c main_arg4 : Vec Ideal S5x32768 .f32) (ix2 b r)
/-- of `dh`, -/
def aHs (c : Dev nD) (b : Fin 5) (r : Fin 32768) : EReal := (V m c main_arg6 : Vec Ideal S5x32768 .f32) (ix2 b r)
/-- and the modulation. -/
def aG (c : Dev nD) (b : Fin 5) (d : Fin 1152) : EReal := (V m c main_arg7 : Vec Ideal S5x1152 .f32) (ix2 b d)

/-! ## The blocks of the arguments at the one point are the arrays -/

/-- The three-axis arrays' blocks stand at the origin, -/
theorem index3 : ∀ t : Fin cfg0.N, win0_0.index t = ![0, 0, 0] ∧ win0_2.index t = ![0, 0, 0] ∧ win0_3.index t = ![0, 0, 0] ∧ win0_5.index t = ![0, 0, 0] :=
  (by decide +kernel : ∀ t : Fin grid0.N, _)
/-- and the two-axis ones'. -/
theorem index2 : ∀ t : Fin cfg0.N, win0_1.index t = ![0, 0] ∧ win0_4.index t = ![0, 0] ∧ win0_6.index t = ![0, 0] ∧ win0_7.index t = ![0, 0] :=
  (by decide +kernel : ∀ t : Fin grid0.N, _)

section
variable (c : Dev nD) (t : Fin cfg0.N)

/-- The block of the codes of `x` is the whole array. -/
theorem iblk0 : (iblk m c 0 t : Vec Ideal S5x32768x1152 .fp8e4m3) = V m c main_v0 := by blk_ext! [iblk, index3 t]
/-- The block of the scales of `x` is the whole array. -/
theorem iblk1 : (iblk m c 1 t : Vec Ideal S5x32768 .f32) = V m c main_arg1 := by blk_ext! [iblk, index2 t]
/-- The block of the branch's output is the whole array. -/
theorem iblk2 : (iblk m c 2 t : Vec Ideal S5x32768x1152 .bf16) = V m c main_arg2 := by blk_ext! [iblk, index3 t]
/-- The block of the codes of `dy` is the whole array. -/
theorem iblk3 : (iblk m c 3 t : Vec Ideal S5x32768x1152 .fp8e5m2) = V m c main_arg3 := by blk_ext! [iblk, index3 t]
/-- The block of the scales of `dy` is the whole array. -/
theorem iblk4 : (iblk m c 4 t : Vec Ideal S5x32768 .f32) = V m c main_arg4 := by blk_ext! [iblk, index2 t]
/-- The block of the codes of `dh` is the whole array. -/
theorem iblk5 : (iblk m c 5 t : Vec Ideal S5x32768x1152 .fp8e5m2) = V m c main_v1 := by blk_ext! [iblk, index3 t]
/-- The block of the scales of `dh` is the whole array. -/
theorem iblk6 : (iblk m c 6 t : Vec Ideal S5x32768 .f32) = V m c main_arg6 := by blk_ext! [iblk, index2 t]
/-- The block of the modulation is the whole array. -/
theorem iblk7 : (iblk m c 7 t : Vec Ideal S5x1152 .f32) = V m c main_arg7 := by blk_ext! [iblk, index2 t]

end

/-! ## The buffers after the body are the stored values -/

section
variable (x0 : Vec Ideal S5x32768x1152 .fp8e4m3) (x1 x4 x6 : Vec Ideal S5x32768 .f32) (x2 : Vec Ideal S5x32768x1152 .bf16)
  (x3 x5 : Vec Ideal S5x32768x1152 .fp8e5m2) (x7 : Vec Ideal S5x1152 .f32)

/-- The input gradient's buffer, from the blocks. -/
theorem out8 : out0_8 x0 x1 x2 x3 x4 x5 x6 x7 = k0_pay10 (k0_pay1 x3 x4) (k0_pay2 x5 x6) (k0_pay4 x0 x1) (k0_pay5 x0 x1) x7 := by
  unfold_out out0_8
  frame_out
/-- The modulation gradient's buffer, from the blocks. -/
theorem out9 : out0_9 x0 x1 x2 x3 x4 x5 x6 x7 = k0_pay9 (k0_pay1 x3 x4) (k0_pay6 x5 x6) (k0_pay7 x0 x1 x5 x6) x2 := by
  unfold_out out0_9
  frame_out
/-- The statistics' buffer, from the blocks. -/
theorem out10 : out0_10 x0 x1 x2 x3 x4 x5 x6 x7 = k0_pay8 (k0_pay1 x3 x4) (k0_pay6 x5 x6) (k0_pay7 x0 x1 x5 x6) x2 := by
  unfold_out out0_10
  frame_out

end

/-! ## The results -/

section
variable (c : Dev nD) (hR : RealArrays (aX m c) (aH m c) (aXs m c) (aHs m c) (aG m c))
include hR

/-- The input gradient after the run. -/
theorem final_dx : ((dats m 0 c).arrAt 8 cfg0.N : Vec Ideal S5x32768x1152 .bf16)
    = fun i => dxC (aX m c) (aY m c) (aH m c) (aXs m c) (aYs m c) (aHs m c) (aG m c) (i 0) (i 1) (i 2) := by
  refine (dats m 0 c).arrAt_eq_of_after_last 8 t0_0 (by decide +kernel) _ fun j => ?_
  blk_simp
  rw [after0_8]
  rw [out8, iblk0, iblk1, iblk3, iblk4, iblk5, iblk6, iblk7]
  exact (congrArg _ (eq_ix3 _)).trans (ref_dx _ _ _ _ _ _ _ hR _ _ _)

/-- The modulation's gradient after the run. -/
theorem final_dmod : ((dats m 0 c).arrAt 9 cfg0.N : Vec Ideal S5x3x1152 .f32)
    = fun i => dmodC (aX m c) (aF m c) (aY m c) (aH m c) (aXs m c) (aYs m c) (aHs m c) (i 0) (i 1) (i 2) := by
  refine (dats m 0 c).arrAt_eq_of_after_last 9 t0_0 (by decide +kernel) _ fun j => ?_
  blk_simp
  rw [after0_9]
  rw [out9, iblk0, iblk1, iblk2, iblk3, iblk4, iblk5, iblk6]
  exact (congrArg _ (eq_ix3 _)).trans (ref_dmod _ _ _ _ _ _ _ _ hR _ _ _)

/-- The statistics after the run. -/
theorem final_blk : ((dats m 0 c).arrAt 10 cfg0.N : Vec Ideal S5x256x3x1152 .f32)
    = fun i => blkC (aX m c) (aF m c) (aY m c) (aH m c) (aXs m c) (aYs m c) (aHs m c) (i 0) (i 1) (i 2) (i 3) := by
  refine (dats m 0 c).arrAt_eq_of_after_last 10 t0_0 (by decide +kernel) _ fun j => ?_
  blk_simp
  rw [after0_10]
  rw [out10, iblk0, iblk1, iblk2, iblk3, iblk4, iblk5, iblk6]
  exact (congrArg _ (eq_ix4 _)).trans (ref_blk _ _ _ _ _ _ _ _ hR _ _ _ _)

end
end Cert.ReferenceIdeal.Gen
end
-- ==== Proof.Claims.lean ====
/-
  The value claim: from a memory the precondition admits and one that agrees with it on the arguments, the kernel and the
  reference both run and end with the same three results.
-/
module

public import proofs.«01_k».proof.Proof.Finite
public import proofs.«01_k».proof.Proof.Result
public import proofs.«01_k».proof.Proof.RefValue
public import proofs.«01_k».proof.Proof.Gen.KernelIdeal
public import proofs.«01_k».proof.Proof.Gen.ReferenceIdeal
public import Idealize.ShloMosaic.Lib.Claim

@[expose] public section

set_option maxRecDepth 16384

noncomputable section

namespace Cert.Proof

open Idealize.ShloMosaic Idealize.ShloMosaic.Tactic Idealize.SL.Sem Cert.Dit

attribute [local instance] Cert.Pre_finite.facts

/-! ## The bytes decoded on the host -/

/-- The codes of `x` in the kernel, -/
theorem kernel_v0 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0 = bitcastToFloat (F := Ideal) (s := Cert.KernelIdeal.S5x32768x1152) .fp8e4m3 (m ((c.tc : Thread Cert.KernelIdeal.nD Cert.KernelIdeal.τ).loc Cert.KernelIdeal.main_arg0)) := by
  entry_read
  rfl

/-- of `dh`, -/
theorem kernel_v1 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v1 = bitcastToFloat (F := Ideal) (s := Cert.KernelIdeal.S5x32768x1152) .fp8e5m2 (m ((c.tc : Thread Cert.KernelIdeal.nD Cert.KernelIdeal.τ).loc Cert.KernelIdeal.main_arg5)) := by
  entry_read
  rfl

/-- and in the reference, of `x` -/
theorem ref_v0 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v0 = bitcastToFloat (F := Ideal) (s := Cert.ReferenceIdeal.S5x32768x1152) .fp8e4m3 (m ((c.tc : Thread Cert.ReferenceIdeal.nD Cert.ReferenceIdeal.τ).loc Cert.ReferenceIdeal.main_arg0)) := by
  entry_read
  rfl

/-- and of `dh`, are the argument's bytes read as floats. -/
theorem ref_v1 (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v1 = bitcastToFloat (F := Ideal) (s := Cert.ReferenceIdeal.S5x32768x1152) .fp8e5m2 (m ((c.tc : Thread Cert.ReferenceIdeal.nD Cert.ReferenceIdeal.τ).loc Cert.ReferenceIdeal.main_arg5)) := by
  entry_read
  rfl

/-- Where the precondition holds the arrays the layer norm reads are real. -/
theorem real_arrays {m : (ℓ : Loc Cert.KernelIdeal.nD Cert.KernelIdeal.τ Cert.KernelIdeal.sig) → Buf (Elt Ideal) ℓ} (hp : Cert.Pre_KernelIdeal_finite m) (c : Dev Cert.KernelIdeal.nD) :
    RealArrays (Cert.KernelIdeal.Gen.aX m c) (Cert.KernelIdeal.Gen.aH m c) (Cert.KernelIdeal.Gen.aXs m c) (Cert.KernelIdeal.Gen.aHs m c) (Cert.KernelIdeal.Gen.aG m c) where
  x b r d := by
    unfold Cert.KernelIdeal.Gen.aX; rw [kernel_v0]; exact Cert.Pre_finite.fn_x _ _ _ _ _ _ _ _ (hp c).1 _
  h b r d := by
    unfold Cert.KernelIdeal.Gen.aH; rw [kernel_v1]; exact Cert.Pre_finite.fn_h _ _ _ _ _ _ _ _ (hp c).2.1 _
  g b d := by
    unfold Cert.KernelIdeal.Gen.aG; rw [Cert.KernelIdeal.Gen.V_main_arg7]; exact Cert.Pre_finite.fn_g _ _ _ _ _ _ _ _ (hp c).2.2.2.2 _
  s b r := by
    unfold Cert.KernelIdeal.Gen.aXs; rw [Cert.KernelIdeal.Gen.V_main_arg1]; exact Cert.Pre_finite.fn_s _ _ _ _ _ _ _ _ (hp c).2.2.1 _
  u b r := by
    unfold Cert.KernelIdeal.Gen.aHs; rw [Cert.KernelIdeal.Gen.V_main_arg6]; exact Cert.Pre_finite.fn_u _ _ _ _ _ _ _ _ (hp c).2.2.2.1 _

/-! ## The two programs' arrays are the same -/

section
variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} (c : Dev Cert.KernelIdeal.nD)

/-- Equal arguments are equal arrays: the codes of `x`, -/
theorem eq_X (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) : Cert.ReferenceIdeal.Gen.aX m' c = Cert.KernelIdeal.Gen.aX m c := by
  unfold Cert.ReferenceIdeal.Gen.aX Cert.KernelIdeal.Gen.aX
  rw [ref_v0, kernel_v0, e]

/-- the branch's output, -/
theorem eq_F (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : Cert.ReferenceIdeal.Gen.aF m' c = Cert.KernelIdeal.Gen.aF m c := by
  unfold Cert.ReferenceIdeal.Gen.aF Cert.KernelIdeal.Gen.aF
  rw [Cert.ReferenceIdeal.Gen.V_main_arg2, Cert.KernelIdeal.Gen.V_main_arg2, e]

/-- the codes of `dy`, -/
theorem eq_Y (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : Cert.ReferenceIdeal.Gen.aY m' c = Cert.KernelIdeal.Gen.aY m c := by
  unfold Cert.ReferenceIdeal.Gen.aY Cert.KernelIdeal.Gen.aY
  rw [Cert.ReferenceIdeal.Gen.V_main_arg3, Cert.KernelIdeal.Gen.V_main_arg3, e]

/-- of `dh`, -/
theorem eq_H (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : Cert.ReferenceIdeal.Gen.aH m' c = Cert.KernelIdeal.Gen.aH m c := by
  unfold Cert.ReferenceIdeal.Gen.aH Cert.KernelIdeal.Gen.aH
  rw [ref_v1, kernel_v1, e]

/-- the scales of `x`, -/
theorem eq_Xs (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : Cert.ReferenceIdeal.Gen.aXs m' c = Cert.KernelIdeal.Gen.aXs m c := by
  unfold Cert.ReferenceIdeal.Gen.aXs Cert.KernelIdeal.Gen.aXs
  rw [Cert.ReferenceIdeal.Gen.V_main_arg1, Cert.KernelIdeal.Gen.V_main_arg1, e]

/-- of `dy`, -/
theorem eq_Ys (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : Cert.ReferenceIdeal.Gen.aYs m' c = Cert.KernelIdeal.Gen.aYs m c := by
  unfold Cert.ReferenceIdeal.Gen.aYs Cert.KernelIdeal.Gen.aYs
  rw [Cert.ReferenceIdeal.Gen.V_main_arg4, Cert.KernelIdeal.Gen.V_main_arg4, e]

/-- of `dh`, -/
theorem eq_Hs (e : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) : Cert.ReferenceIdeal.Gen.aHs m' c = Cert.KernelIdeal.Gen.aHs m c := by
  unfold Cert.ReferenceIdeal.Gen.aHs Cert.KernelIdeal.Gen.aHs
  rw [Cert.ReferenceIdeal.Gen.V_main_arg6, Cert.KernelIdeal.Gen.V_main_arg6, e]

/-- and the modulation. -/
theorem eq_G (e : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : Cert.ReferenceIdeal.Gen.aG m' c = Cert.KernelIdeal.Gen.aG m c := by
  unfold Cert.ReferenceIdeal.Gen.aG Cert.KernelIdeal.Gen.aG
  rw [Cert.ReferenceIdeal.Gen.V_main_arg7, Cert.KernelIdeal.Gen.V_main_arg7, e]

end

/-- The kernel and the reference end with equal results. -/
theorem algebraic : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hp ha
  have hk := real_arrays hp
  have hr : ∀ c : Dev Cert.ReferenceIdeal.nD, RealArrays (Cert.ReferenceIdeal.Gen.aX m' c) (Cert.ReferenceIdeal.Gen.aH m' c) (Cert.ReferenceIdeal.Gen.aXs m' c) (Cert.ReferenceIdeal.Gen.aHs m' c) (Cert.ReferenceIdeal.Gen.aG m' c) := fun c => by
    rw [eq_X c (ha c).1, eq_H c (ha c).2.2.2.2.2.1, eq_Xs c (ha c).2.1, eq_Hs c (ha c).2.2.2.2.2.2.1, eq_G c (ha c).2.2.2.2.2.2.2]
    exact hk c
  refine ⟨fun c => fun i : Cert.KernelIdeal.S5x32768x1152.Idx => dxC (Cert.KernelIdeal.Gen.aX m c) (Cert.KernelIdeal.Gen.aY m c) (Cert.KernelIdeal.Gen.aH m c) (Cert.KernelIdeal.Gen.aXs m c) (Cert.KernelIdeal.Gen.aYs m c) (Cert.KernelIdeal.Gen.aHs m c) (Cert.KernelIdeal.Gen.aG m c) (i 0) (i 1) (i 2), fun c => fun i : Cert.KernelIdeal.S5x3x1152.Idx => dmodC (Cert.KernelIdeal.Gen.aX m c) (Cert.KernelIdeal.Gen.aF m c) (Cert.KernelIdeal.Gen.aY m c) (Cert.KernelIdeal.Gen.aH m c) (Cert.KernelIdeal.Gen.aXs m c) (Cert.KernelIdeal.Gen.aYs m c) (Cert.KernelIdeal.Gen.aHs m c) (i 0) (i 1) (i 2),
    fun c => fun i : Cert.KernelIdeal.S5x256x3x1152.Idx => blkC (Cert.KernelIdeal.Gen.aX m c) (Cert.KernelIdeal.Gen.aF m c) (Cert.KernelIdeal.Gen.aY m c) (Cert.KernelIdeal.Gen.aH m c) (Cert.KernelIdeal.Gen.aXs m c) (Cert.KernelIdeal.Gen.aYs m c) (Cert.KernelIdeal.Gen.aHs m c) (i 0) (i 1) (i 2) (i 3), ?_, ?_⟩
  · exact (θ_run _ _ _).mono (fun r h c => ⟨Cert.KernelIdeal.Gen.res_dx h.1 c (hk c), Cert.KernelIdeal.Gen.res_dmod h.1 c (hk c), Cert.KernelIdeal.Gen.res_blk h.1 c (hk c),
      Cert.KernelIdeal.Gen.args_kept m h.1 c⟩) (Cert.KernelIdeal.Gen.run_main_quiescent m g)
  · refine (θ_run _ _ _).mono (fun r h c => ⟨?_, ?_, ?_, h.2 c⟩) (θ_run_and (Cert.ReferenceIdeal.Gen.run_main m' g') (Cert.ReferenceIdeal.Gen.unchanged m' g'))
    · beta_reduce
      rw [← eq_X c (ha c).1, ← eq_Y c (ha c).2.2.2.1, ← eq_H c (ha c).2.2.2.2.2.1, ← eq_Xs c (ha c).2.1, ← eq_Ys c (ha c).2.2.2.2.1, ← eq_Hs c (ha c).2.2.2.2.2.2.1, ← eq_G c (ha c).2.2.2.2.2.2.2]
      exact (Pipeline.FramePost.out_eq h.1 c 8).trans (Cert.ReferenceIdeal.Gen.final_dx m' c (hr c))
    · beta_reduce
      rw [← eq_X c (ha c).1, ← eq_F c (ha c).2.2.1, ← eq_Y c (ha c).2.2.2.1, ← eq_H c (ha c).2.2.2.2.2.1, ← eq_Xs c (ha c).2.1, ← eq_Ys c (ha c).2.2.2.2.1, ← eq_Hs c (ha c).2.2.2.2.2.2.1]
      exact (Pipeline.FramePost.out_eq h.1 c 9).trans (Cert.ReferenceIdeal.Gen.final_dmod m' c (hr c))
    · beta_reduce
      rw [← eq_X c (ha c).1, ← eq_F c (ha c).2.2.1, ← eq_Y c (ha c).2.2.2.1, ← eq_H c (ha c).2.2.2.2.2.1, ← eq_Xs c (ha c).2.1, ← eq_Ys c (ha c).2.2.2.2.1, ← eq_Hs c (ha c).2.2.2.2.2.2.1]
      exact (Pipeline.FramePost.out_eq h.1 c 10).trans (Cert.ReferenceIdeal.Gen.final_blk m' c (hr c))

end Cert.Proof
end
-- ==== Proof.KernelRun.lean ====
/- The body of the kernel as compiled, at one grid point: it runs, and leaves its inputs as they were. Nothing is said of what it
   stores. `sl_exec` takes the run, both ways of the body's one conditional. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's one conditional, from the grid coordinates. -/
abbrev cond0_0 (i : grid0.Coords) : Prop := k0_cond1 i = 1#1
/-! ## The body's buffers -/

/-! Each window's current buffer at point `t`, and that it is whole. -/

/-- Window 0's buffer at point `t`. -/
abbrev ms0_0 (t : Fin cfg0.N) : Memref sig .tc .vmem S5x1024 .f32 := win0_0.stage (cfg0.slots t 0)
/-- It is whole. -/
abbrev hs0_0 (t : Fin cfg0.N) : (ms0_0 t).IsWhole := hstage0_0 ((cfg0.slots t 0).cast nbuf0_0)
/-- Window 1's buffer at point `t`. -/
abbrev ms0_1 (t : Fin cfg0.N) : Memref sig .tc .vmem S5x1024 .f32 := win0_1.stage (cfg0.slots t 1)
/-- It is whole. -/
abbrev hs0_1 (t : Fin cfg0.N) : (ms0_1 t).IsWhole := hstage0_1 ((cfg0.slots t 1).cast nbuf0_1)
/-- Window 2's buffer at point `t`. -/
abbrev ms0_2 (t : Fin cfg0.N) : Memref sig .tc .vmem S5x1024 .f32 := win0_2.stage (cfg0.slots t 2)
/-- It is whole. -/
abbrev hs0_2 (t : Fin cfg0.N) : (ms0_2 t).IsWhole := hstage0_2 ((cfg0.slots t 2).cast nbuf0_2)
/-- Window 3's buffer at point `t`. -/
abbrev ms0_3 (t : Fin cfg0.N) : Memref sig .tc .vmem S1x1024x1152 .fp8e4m3 := win0_3.stage (cfg0.slots t 3)
/-- It is whole. -/
abbrev hs0_3 (t : Fin cfg0.N) : (ms0_3 t).IsWhole := hstage0_3 ((cfg0.slots t 3).cast nbuf0_3)
/-- Window 4's buffer at point `t`. -/
abbrev ms0_4 (t : Fin cfg0.N) : Memref sig .tc .vmem S1x1024x1152 .bf16 := win0_4.stage (cfg0.slots t 4)
/-- It is whole. -/
abbrev hs0_4 (t : Fin cfg0.N) : (ms0_4 t).IsWhole := hstage0_4 ((cfg0.slots t 4).cast nbuf0_4)
/-- Window 5's buffer at point `t`. -/
abbrev ms0_5 (t : Fin cfg0.N) : Memref sig .tc .vmem S1x1024x1152 .fp8e5m2 := win0_5.stage (cfg0.slots t 5)
/-- It is whole. -/
abbrev hs0_5 (t : Fin cfg0.N) : (ms0_5 t).IsWhole := hstage0_5 ((cfg0.slots t 5).cast nbuf0_5)
/-- Window 6's buffer at point `t`. -/
abbrev ms0_6 (t : Fin cfg0.N) : Memref sig .tc .vmem S1x1024x1152 .fp8e5m2 := win0_6.stage (cfg0.slots t 6)
/-- It is whole. -/
abbrev hs0_6 (t : Fin cfg0.N) : (ms0_6 t).IsWhole := hstage0_6 ((cfg0.slots t 6).cast nbuf0_6)
/-- Window 7's buffer at point `t`. -/
abbrev ms0_7 (t : Fin cfg0.N) : Memref sig .tc .vmem S5x1152 .f32 := win0_7.stage (cfg0.slots t 7)
/-- It is whole. -/
abbrev hs0_7 (t : Fin cfg0.N) : (ms0_7 t).IsWhole := hstage0_7 ((cfg0.slots t 7).cast nbuf0_7)
/-- Window 8's buffer at point `t`. -/
abbrev ms0_8 (t : Fin cfg0.N) : Memref sig .tc .vmem S1x1024x1152 .bf16 := win0_8.stage (cfg0.slots t 8)
/-- It is whole. -/
abbrev hs0_8 (t : Fin cfg0.N) : (ms0_8 t).IsWhole := hstage0_8 ((cfg0.slots t 8).cast nbuf0_8)
/-- Window 9's buffer at point `t`. -/
abbrev ms0_9 (t : Fin cfg0.N) : Memref sig .tc .vmem S5x3x1152 .f32 := win0_9.stage (cfg0.slots t 9)
/-- It is whole. -/
abbrev hs0_9 (t : Fin cfg0.N) : (ms0_9 t).IsWhole := hstage0_9 ((cfg0.slots t 9).cast nbuf0_9)
/-- Window 10's buffer at point `t`. -/
abbrev ms0_10 (t : Fin cfg0.N) : Memref sig .tc .vmem S1x8x3x1152 .f32 := win0_10.stage (cfg0.slots t 10)
/-- It is whole. -/
abbrev hs0_10 (t : Fin cfg0.N) : (ms0_10 t).IsWhole := hstage0_10 ((cfg0.slots t 10).cast nbuf0_10)
/-- The first scratch buffer. -/
abbrev scM0_0 : Memref sig .tc .vmem S2x256x1152 .bf16 := Memref.whole cc0_scratch0
/-- The second scratch buffer. -/
abbrev scM0_1 : Memref sig .tc .vmem S2x4x256x128 .f32 := Memref.whole cc0_scratch1

/-- The launch's invariant: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- the run's proof term is large
set_option maxHeartbeats 40000000 in
/-- At any grid point, on any whole memrefs: from the inputs' buffers at `x0` … `x7` and the outputs' and the scratch buffers at any
    contents, the body runs and returns the inputs' buffers at the same contents and the others at some contents. -/
theorem kernelRun0 (c : Dev nD) (i : grid0.Coords) (arg2 : Memref sig .tc .vmem S5x1024 .f32) (harg2 : arg2.IsWhole) (arg3 : Memref sig .tc .vmem S5x1024 .f32) (harg3 : arg3.IsWhole) (arg4 : Memref sig .tc .vmem S5x1024 .f32) (harg4 : arg4.IsWhole) (arg5 : Memref sig .tc .vmem S1x1024x1152 .fp8e4m3) (harg5 : arg5.IsWhole) (arg6 : Memref sig .tc .vmem S1x1024x1152 .bf16) (harg6 : arg6.IsWhole) (arg7 : Memref sig .tc .vmem S1x1024x1152 .fp8e5m2) (harg7 : arg7.IsWhole) (arg8 : Memref sig .tc .vmem S1x1024x1152 .fp8e5m2) (harg8 : arg8.IsWhole) (arg9 : Memref sig .tc .vmem S5x1152 .f32) (harg9 : arg9.IsWhole) (arg10 : Memref sig .tc .vmem S1x1024x1152 .bf16) (harg10 : arg10.IsWhole) (arg11 : Memref sig .tc .vmem S5x3x1152 .f32) (harg11 : arg11.IsWhole) (arg12 : Memref sig .tc .vmem S1x8x3x1152 .f32) (harg12 : arg12.IsWhole) (arg13 : Memref sig .tc .vmem S2x256x1152 .bf16) (harg13 : arg13.IsWhole) (arg14 : Memref sig .tc .vmem S2x4x256x128 .f32) (harg14 : arg14.IsWhole)
    (x0 : Vec F S5x1024 .f32) (x1 : Vec F S5x1024 .f32) (x2 : Vec F S5x1024 .f32) (x3 : Vec F S1x1024x1152 .fp8e4m3) (x4 : Vec F S1x1024x1152 .bf16) (x5 : Vec F S1x1024x1152 .fp8e5m2) (x6 : Vec F S1x1024x1152 .fp8e5m2) (x7 : Vec F S5x1152 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part392_eq_skeleton, k0_part386_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part387_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part388_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part389_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part390_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part391_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    by_cases hc0 : cond0_0 i
    all_goals
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [HS0]
      · iexists _, _; isplitr; swap; · iexact HS0
        ipureintro; rfl
      iexists _, _; isplitr; swap; · iexact HS1
      ipureintro; rfl

end Cert.Kernel.Gen

end
-- ==== Proof.KernelFrame.lean ====
/- The frame of the kernel as compiled: it runs to its end, its arguments are unchanged, its semaphores at zero. Nothing is said of
   its results: this is the claim for the bits, beside the value claim for the idealized kernel. -/
module

public import proofs.«01_k».proof.Proof.KernelRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows, of whose contents nothing is said here. -/
def forgets0 : Fin 11 → Bool := fun w => w.val == 8 || w.val == 9 || w.val == 10

/-- The pipeline's proof data on core `c`: the arrays as the launch finds them; after the body each input's buffer at its block;
    the outputs unnamed; the invariant says only that the scratch buffers and the generator register are there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the contents that the launch finds. -/
theorem A_eq (c : Dev nD) (w : Fin cfg0.W) : (dats m 0 c).A w = V m c (Pipeline.arrRef spec0 w) := by
  dsimp only [dats]

/-! What the body leaves in each input's buffer: the block that was there. -/

/-- After the body, input window 0 holds its block. -/
theorem after0_0 (c : Dev nD) (t : Fin cfg0.N) : (dats m 0 c).after 0 t = iblk m c 0 t := by dsimp only [dats]
/-- After the body, input window 1 holds its block. -/
theorem after0_1 (c : Dev nD) (t : Fin cfg0.N) : (dats m 0 c).after 1 t = iblk m c 1 t := by dsimp only [dats]
/-- After the body, input window 2 holds its block. -/
theorem after0_2 (c : Dev nD) (t : Fin cfg0.N) : (dats m 0 c).after 2 t = iblk m c 2 t := by dsimp only [dats]
/-- After the body, input window 3 holds its block. -/
theorem after0_3 (c : Dev nD) (t : Fin cfg0.N) : (dats m 0 c).after 3 t = iblk m c 3 t := by dsimp only [dats]
/-- After the body, input window 4 holds its block. -/
theorem after0_4 (c : Dev nD) (t : Fin cfg0.N) : (dats m 0 c).after 4 t = iblk m c 4 t := by dsimp only [dats]
/-- After the body, input window 5 holds its block. -/
theorem after0_5 (c : Dev nD) (t : Fin cfg0.N) : (dats m 0 c).after 5 t = iblk m c 5 t := by dsimp only [dats]
/-- After the body, input window 6 holds its block. -/
theorem after0_6 (c : Dev nD) (t : Fin cfg0.N) : (dats m 0 c).after 6 t = iblk m c 6 t := by dsimp only [dats]
/-- After the body, input window 7 holds its block. -/
theorem after0_7 (c : Dev nD) (t : Fin cfg0.N) : (dats m 0 c).after 7 t = iblk m c 7 t := by dsimp only [dats]

/-! What the body finds in each input's buffer: its block at the point. -/

/-- Before the body, input window 0 holds its block. -/
theorem before0_0 (c : Dev nD) (t : Fin cfg0.N) (d) : (dats m 0 c).before 0 t d = iblk m c 0 t :=
  before0_0_of m (dats m 0 c) (A_eq m c 0) (after0_0 m c) t d
/-- Before the body, input window 1 holds its block. -/
theorem before0_1 (c : Dev nD) (t : Fin cfg0.N) (d) : (dats m 0 c).before 1 t d = iblk m c 1 t :=
  before0_1_of m (dats m 0 c) (A_eq m c 1) (after0_1 m c) t d
/-- Before the body, input window 2 holds its block. -/
theorem before0_2 (c : Dev nD) (t : Fin cfg0.N) (d) : (dats m 0 c).before 2 t d = iblk m c 2 t :=
  before0_2_of m (dats m 0 c) (A_eq m c 2) (after0_2 m c) t d
/-- Before the body, input window 3 holds its block. -/
theorem before0_3 (c : Dev nD) (t : Fin cfg0.N) (d) : (dats m 0 c).before 3 t d = iblk m c 3 t :=
  before0_3_of m (dats m 0 c) (A_eq m c 3) (after0_3 m c) t d
/-- Before the body, input window 4 holds its block. -/
theorem before0_4 (c : Dev nD) (t : Fin cfg0.N) (d) : (dats m 0 c).before 4 t d = iblk m c 4 t :=
  before0_4_of m (dats m 0 c) (A_eq m c 4) (after0_4 m c) t d
/-- Before the body, input window 5 holds its block. -/
theorem before0_5 (c : Dev nD) (t : Fin cfg0.N) (d) : (dats m 0 c).before 5 t d = iblk m c 5 t :=
  before0_5_of m (dats m 0 c) (A_eq m c 5) (after0_5 m c) t d
/-- Before the body, input window 6 holds its block. -/
theorem before0_6 (c : Dev nD) (t : Fin cfg0.N) (d) : (dats m 0 c).before 6 t d = iblk m c 6 t :=
  before0_6_of m (dats m 0 c) (A_eq m c 6) (after0_6 m c) t d
/-- Before the body, input window 7 holds its block. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: each window's buffer in turn. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point runs from its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0 c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch ends with every input array unchanged and every semaphore counter at zero; nothing is said of the outputs. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A launch that leaves the input arrays alone leaves the eight arguments unchanged. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 1 rfl).trans ((hA c 1).trans (V_main_arg4 m c)),
      ((h c).2 main_arg5 (Pipeline.mem_restRefs_of main_arg5 (by decide) (by decide))).trans (V_main_arg5 m c),
      (Pipeline.RDat.FramePost.arr_in h c 2 rfl).trans ((hA c 2).trans (V_main_arg6 m c)),
      (Pipeline.RDat.FramePost.arr_in h c 7 rfl).trans ((hA c 7).trans (V_main_arg7 m c))⟩) h

/-- The kernel as compiled ends with its eight arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_of m ρ (fun c => (dats m 0 c).toRForget forgets0) (A_eq m) (run_main m ρ)

/-- The frame claim of the kernel as compiled: every run ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    ⟨IdealRules.bf16_pack.statement _,
      IdealRules.named_const.statement Cert.KernelIdeal.κ "inv_d" .f32 0x3A638E39#32 ((1 / 1152 : ℝ) : EReal) rfl,
      IdealRules.bf16_pack.statement _,
      IdealRules.bf16_pack.statement _⟩,
    algebraic⟩

end Cert.Proof

end
